-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x2304 : Shape := ⟨3, ![8, 4096, 2304]⟩
abbrev S8x4096x18 : Shape := ⟨3, ![8, 4096, 18]⟩
abbrev S2304x9216 : Shape := ⟨2, ![2304, 9216]⟩
abbrev S18x72 : Shape := ⟨2, ![18, 72]⟩
abbrev S32768x2304 : Shape := ⟨2, ![32768, 2304]⟩
abbrev S32768x18 : Shape := ⟨2, ![32768, 18]⟩
abbrev S32768x9216 : Shape := ⟨2, ![32768, 9216]⟩
abbrev S32768x72 : Shape := ⟨2, ![32768, 72]⟩
abbrev S2048x2304 : Shape := ⟨2, ![2048, 2304]⟩
abbrev S2048x18 : Shape := ⟨2, ![2048, 18]⟩
abbrev S2304x256 : Shape := ⟨2, ![2304, 256]⟩
abbrev S2048x256 : Shape := ⟨2, ![2048, 256]⟩
abbrev S2048x72 : Shape := ⟨2, ![2048, 72]⟩
abbrev S128x1 : Shape := ⟨2, ![128, 1]⟩
abbrev S128x128 : Shape := ⟨2, ![128, 128]⟩
abbrev S1x1 : Shape := ⟨2, ![1, 1]⟩
abbrev S256x2304 : Shape := ⟨2, ![256, 2304]⟩
abbrev S256x256 : Shape := ⟨2, ![256, 256]⟩
abbrev S256x72 : Shape := ⟨2, ![256, 72]⟩
abbrev S256x128 : Shape := ⟨2, ![256, 128]⟩
abbrev S256 : Shape := ⟨1, ![256]⟩
abbrev S256x1 : Shape := ⟨2, ![256, 1]⟩

abbrev nBuf : Space → Nat
  | .hbm => 10
  | .vmem => 15
  | .smem => 2
  | _ => 0

abbrev bufTy : (tb : Table) → Fin (tcTables nBuf tb) → BufTy
  | .hbm, ⟨0, _⟩ => ⟨S8x4096x2304, .fp8e4m3⟩
  | .hbm, ⟨1, _⟩ => ⟨S8x4096x18, .f32⟩
  | .hbm, ⟨2, _⟩ => ⟨S2304x9216, .fp8e4m3⟩
  | .hbm, ⟨3, _⟩ => ⟨S18x72, .f32⟩
  | .hbm, ⟨4, _⟩ => ⟨S2304x9216, .fp8e4m3⟩
  | .hbm, ⟨5, _⟩ => ⟨S18x72, .f32⟩
  | .hbm, ⟨6, _⟩ => ⟨S32768x2304, .fp8e4m3⟩
  | .hbm, ⟨7, _⟩ => ⟨S32768x18, .f32⟩
  | .hbm, ⟨8, _⟩ => ⟨S32768x9216, .fp8e4m3⟩
  | .hbm, ⟨9, _⟩ => ⟨S32768x72, .f32⟩
  | .local _ .vmem, ⟨0, _⟩ => ⟨S2048x2304, .fp8e4m3⟩
  | .local _ .vmem, ⟨1, _⟩ => ⟨S2048x2304, .fp8e4m3⟩
  | .local _ .vmem, ⟨2, _⟩ => ⟨S2048x18, .f32⟩
  | .local _ .vmem, ⟨3, _⟩ => ⟨S2048x18, .f32⟩
  | .local _ .vmem, ⟨4, _⟩ => ⟨S2304x256, .fp8e4m3⟩
  | .local _ .vmem, ⟨5, _⟩ => ⟨S2304x256, .fp8e4m3⟩
  | .local _ .vmem, ⟨6, _⟩ => ⟨S2304x256, .fp8e4m3⟩
  | .local _ .vmem, ⟨7, _⟩ => ⟨S2304x256, .fp8e4m3⟩
  | .local _ .vmem, ⟨8, _⟩ => ⟨S2048x256, .fp8e4m3⟩
  | .local _ .vmem, ⟨9, _⟩ => ⟨S2048x256, .fp8e4m3⟩
  | .local _ .vmem, ⟨10, _⟩ => ⟨S2048x72, .f32⟩
  | .local _ .vmem, ⟨11, _⟩ => ⟨S2048x72, .f32⟩
  | .local _ .vmem, ⟨12, _⟩ => ⟨S2048x2304, .bf16⟩
  | .local _ .vmem, ⟨13, _⟩ => ⟨S2304x256, .bf16⟩
  | .local _ .vmem, ⟨14, _⟩ => ⟨S2304x256, .bf16⟩
  | .local _ .smem, ⟨0, _⟩ => ⟨S18x72, .f32⟩
  | .local _ .smem, ⟨1, _⟩ => ⟨S18x72, .f32⟩
  | _, _ => ⟨S8x4096x2304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 36], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1097 : BitVec 32 := 0#32
  let c16_i32_1098 : BitVec 32 := 16#32
  let v2547 : BitVec 32 := Scalar.addi c0_i32_1097 c16_i32_1098
  let c1_i32_1099 : BitVec 32 := 1#32
  ⟨c0_i32_1097, v2547, c1_i32_1099⟩
def k0_off1 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2549 : Index := Scalar.indexCast v2548
  let c0_1102 : Index := 0#32
  ![v2549.toNat, 0]
def k0_off2 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2555 : Index := Scalar.indexCast v2548
  let c0_1103 : Index := 0#32
  ![v2555.toNat, 0]
def k0_off3 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2564 : Index := Scalar.indexCast v2548
  let c1_1105 : Index := 1#32
  ![v2564.toNat, 1]
def k0_off4 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2570 : Index := Scalar.indexCast v2548
  let c128_1106 : Index := 128#32
  ![v2570.toNat, 128]
def k0_off5 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2579 : Index := Scalar.indexCast v2548
  let c2_1108 : Index := 2#32
  ![v2579.toNat, 2]
def k0_off6 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2585 : Index := Scalar.indexCast v2548
  let c256_1109 : Index := 256#32
  ![v2585.toNat, 256]
def k0_off7 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2594 : Index := Scalar.indexCast v2548
  let c3_1111 : Index := 3#32
  ![v2594.toNat, 3]
def k0_off8 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2600 : Index := Scalar.indexCast v2548
  let c384_1112 : Index := 384#32
  ![v2600.toNat, 384]
def k0_off9 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2609 : Index := Scalar.indexCast v2548
  let c4_1114 : Index := 4#32
  ![v2609.toNat, 4]
def k0_off10 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2615 : Index := Scalar.indexCast v2548
  let c512_1115 : Index := 512#32
  ![v2615.toNat, 512]
def k0_off11 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2624 : Index := Scalar.indexCast v2548
  let c5_1117 : Index := 5#32
  ![v2624.toNat, 5]
def k0_off12 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2630 : Index := Scalar.indexCast v2548
  let c640_1118 : Index := 640#32
  ![v2630.toNat, 640]
def k0_off13 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2639 : Index := Scalar.indexCast v2548
  let c6_1120 : Index := 6#32
  ![v2639.toNat, 6]
def k0_off14 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2645 : Index := Scalar.indexCast v2548
  let c768_1121 : Index := 768#32
  ![v2645.toNat, 768]
def k0_off15 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2654 : Index := Scalar.indexCast v2548
  let c7_1123 : Index := 7#32
  ![v2654.toNat, 7]
def k0_off16 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2660 : Index := Scalar.indexCast v2548
  let c896_1124 : Index := 896#32
  ![v2660.toNat, 896]
def k0_off17 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2669 : Index := Scalar.indexCast v2548
  let c8_1126 : Index := 8#32
  ![v2669.toNat, 8]
def k0_off18 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2675 : Index := Scalar.indexCast v2548
  let c1024_1127 : Index := 1024#32
  ![v2675.toNat, 1024]
def k0_off19 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2684 : Index := Scalar.indexCast v2548
  let c9_1129 : Index := 9#32
  ![v2684.toNat, 9]
def k0_off20 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2690 : Index := Scalar.indexCast v2548
  let c1152_1130 : Index := 1152#32
  ![v2690.toNat, 1152]
def k0_off21 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2699 : Index := Scalar.indexCast v2548
  let c10_1132 : Index := 10#32
  ![v2699.toNat, 10]
def k0_off22 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2705 : Index := Scalar.indexCast v2548
  let c1280_1133 : Index := 1280#32
  ![v2705.toNat, 1280]
def k0_off23 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2714 : Index := Scalar.indexCast v2548
  let c11_1135 : Index := 11#32
  ![v2714.toNat, 11]
def k0_off24 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2720 : Index := Scalar.indexCast v2548
  let c1408_1136 : Index := 1408#32
  ![v2720.toNat, 1408]
def k0_off25 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2729 : Index := Scalar.indexCast v2548
  let c12_1138 : Index := 12#32
  ![v2729.toNat, 12]
def k0_off26 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2735 : Index := Scalar.indexCast v2548
  let c1536_1139 : Index := 1536#32
  ![v2735.toNat, 1536]
def k0_off27 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2744 : Index := Scalar.indexCast v2548
  let c13_1141 : Index := 13#32
  ![v2744.toNat, 13]
def k0_off28 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2750 : Index := Scalar.indexCast v2548
  let c1664_1142 : Index := 1664#32
  ![v2750.toNat, 1664]
def k0_off29 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2759 : Index := Scalar.indexCast v2548
  let c14_1144 : Index := 14#32
  ![v2759.toNat, 14]
def k0_off30 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2765 : Index := Scalar.indexCast v2548
  let c1792_1145 : Index := 1792#32
  ![v2765.toNat, 1792]
def k0_off31 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2774 : Index := Scalar.indexCast v2548
  let c15_1147 : Index := 15#32
  ![v2774.toNat, 15]
def k0_off32 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2780 : Index := Scalar.indexCast v2548
  let c1920_1148 : Index := 1920#32
  ![v2780.toNat, 1920]
def k0_off33 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2789 : Index := Scalar.indexCast v2548
  let c16_1150 : Index := 16#32
  ![v2789.toNat, 16]
def k0_off34 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2795 : Index := Scalar.indexCast v2548
  let c2048_1151 : Index := 2048#32
  ![v2795.toNat, 2048]
def k0_off35 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2804 : Index := Scalar.indexCast v2548
  let c17_1153 : Index := 17#32
  ![v2804.toNat, 17]
def k0_off36 (k0_t1 : Fin k0_t1_loop.trips) : Fin 2 → Nat :=
  let c0_i32_1097 : BitVec 32 := 0#32
  let c1_i32_1099 : BitVec 32 := 1#32
  let arg13 : BitVec 32 := Scf.iv c0_i32_1097 c1_i32_1099 k0_t1
  let c128_i32_1101 : BitVec 32 := 128#32
  let v2548 : BitVec 32 := Scalar.muli arg13 c128_i32_1101
  let v2810 : Index := Scalar.indexCast v2548
  let c2176_1154 : Index := 2176#32
  ![v2810.toNat, 2176]
def k0_off37 (i : grid0.Coords) (c0_i32_1 : BitVec 32) : Fin 2 → Nat :=
  let c0 : Index := 0#32
  let arg1 : BitVec 32 := BitVec.ofNat 32 (i 1).val
  let c2_i32 : BitVec 32 := 2#32
  let v3 : BitVec 32 := Scalar.muli arg1 c2_i32
  let v4 : BitVec 32 := Scalar.addi v3 c0_i32_1
  let v5 : Index := Scalar.indexCast v4
  ![0, v5.toNat]
def k0_off38 (i : grid0.Coords) (c0_i32_14 : BitVec 32) : Fin 2 → Nat :=
  let c1 : Index := 1#32
  let arg1 : BitVec 32 := BitVec.ofNat 32 (i 1).val
  let c2_i32_13 : BitVec 32 := 2#32
  let v27 : BitVec 32 := Scalar.muli arg1 c2_i32_13
  let v28 : BitVec 32 := Scalar.addi v27 c0_i32_14
  let v29 : Index := Scalar.indexCast v28
  ![1, v29.toNat]
def k0_off39 (i : grid0.Coords) (c0_i32_26 : BitVec 32) : Fin 2 → Nat :=
  let c2 : Index := 2#32
  let arg1 : BitVec 32 := BitVec.ofNat 32 (i 1).val
  let c2_i32_25 : BitVec 32 := 2#32
  let v51 : BitVec 32 := Scalar.muli arg1 c2_i32_25
  let v52 : BitVec 32 := Scalar.addi v51 c0_i32_26
  let v53 : Index := Scalar.indexCast v52
  ![2, v53.toNat]
def k0_off40 (i : grid0.Coords) (c0_i32_38 : BitVec 32) : Fin 2 → Nat :=
  let c3 : Index := 3#32
  let arg1 : BitVec 32 := BitVec.ofNat 32 (i 1).val
  let c2_i32_37 : BitVec 32 := 2#32
  let v75 : BitVec 32 := Scalar.muli arg1 c2_i32_37
  let v76 : BitVec 32 := Scalar.addi v75 c0_i32_38
  let v77 : Index := Scalar.indexCast v76
  ![3, v77.toNat]
def k0_off41 (i : grid0.Coords) (c0_i32_50 : BitVec 32) : Fin 2 → Nat :=
  let c4 : Index := 4#32
  let arg1 : BitVec 32 := BitVec.ofNat 32 (i 1).val
  let c2_i32_49 : BitVec 32 := 2#32
  let v99 : BitVec 32 := Scalar.muli arg1 c2_i32_49
  let v100 : BitVec 32 := Scalar.addi v99 c0_i32_50
  let v101 : Index := Scalar.indexCast v100
  ![4, v101.toNat]
def k0_off42 (i : grid0.Coords) (c0_i32_62 : BitVec 32) : Fin 2 → Nat :=
  let c5 : Index := 5#32
  let arg1 : BitVec 32 := BitVec.ofNat 32 (i 1).val
  let c2_i32_61 : BitVec 32 := 2#32
  let v123 : BitVec 32 := Scalar.muli arg1 c2_i32_61
  let v124 : BitVec 32 := Scalar.addi v123 c0_i32_62
  let v125 : Index := Scalar.indexCast v124
  ![5, v125.toNat]
def k0_off43 (i : grid0.Coords) (c0_i32_74 : BitVec 32) : Fin 2 → Nat :=
  let c6 : Index := 6#32
  let arg1 : BitVec 32 := BitVec.ofNat 32 (i 1).val
  let c2_i32_73 : BitVec 32 := 2#32
  let v147 : BitVec 32 := Scalar.muli arg1 c2_i32_73
  let v148 : BitVec 32 := Scalar.addi v147 c0_i32_74
  let v149 : Index := Scalar.indexCast v148
  ![6, v149.toNat]
def k0_off44 (i : grid0.Coords) (c0_i32_86 : BitVec 32) : Fin 2 → Nat :=
  let c7 : Index := 7#32
  let arg1 : BitVec 32 := BitVec.ofNat 32 (i 1).val
  let c2_i32_85 : BitVec 32 := 2#32
  let v171 : BitVec 32 := Scalar.muli arg1 c2_i32_85
  let v172 : BitVec 32 := Scalar.addi v171 c0_i32_86
  let v173 : Index := Scalar.indexCast v172
  ![7, v173.toNat]
def k0_off45 (i : grid0.Coords) (c0_i32_98 : BitVec 32) : Fin 2 → Nat :=
  let c8 : Index := 8#32
  let arg1 : BitVec 32 := BitVec.ofNat 32 (i 1).val
  let c2_i32_97 : BitVec 32 := 2#32
  let v195 : BitVec 32 := Scalar.muli arg1 c2_i32_97
  let v196 : BitVec 32 := Scalar.addi v195 c0_i32_98
  let v197 : Index := Scalar.indexCast v196
  ![8, v197.toNat]
def k0_off46 (i : grid0.Coords) (c0_i32_110 : BitVec 32) : Fin 2 → Nat :=
  let c9 : Index := 9#32
  let arg1 : BitVec 32 := BitVec.ofNat 32 (i 1).val
  let c2_i32_109 : BitVec 32 := 2#32
  let v219 : BitVec 32 := Scalar.muli arg1 c2_i32_109
  let v220 : BitVec 32 := Scalar.addi v219 c0_i32_110
  let v221 : Index := Scalar.indexCast v220
  ![9, v221.toNat]
def k0_off47 (i : grid0.Coords) (c0_i32_122 : BitVec 32) : Fin 2 → Nat :=
  let c10 : Index := 10#32
  let arg1 : BitVec 32 := BitVec.ofNat 32 (i 1).val
  let c2_i32_121 : BitVec 32 := 2#32
  let v243 : BitVec 32 := Scalar.muli arg1 c2_i32_121
  let v244 : BitVec 32 := Scalar.addi v243 c0_i32_122
  let v245 : Index := Scalar.indexCast v244
  ![10, v245.toNat]
def k0_off48 (i : grid0.Coords) (c0_i32_134 : BitVec 32) : Fin 2 → Nat :=
  let c11 : Index := 11#32
  let arg1 : BitVec 32 := BitVec.ofNat 32 (i 1).val
  let c2_i32_133 : BitVec 32 := 2#32
  let v267 : BitVec 32 := Scalar.muli arg1 c2_i32_133
  let v268 : BitVec 32 := Scalar.addi v267 c0_i32_134
  let v269 : Index := Scalar.indexCast v268
  ![11, v269.toNat]
def k0_off49 (i : grid0.Coords) (c0_i32_146 : BitVec 32) : Fin 2 → Nat :=
  let c12 : Index := 12#32
  let arg1 : BitVec 32 := BitVec.ofNat 32 (i 1).val
  let c2_i32_145 : BitVec 32 := 2#32
  let v291 : BitVec 32 := Scalar.muli arg1 c2_i32_145
  let v292 : BitVec 32 := Scalar.addi v291 c0_i32_146
  let v293 : Index := Scalar.indexCast v292
  ![12, v293.toNat]
def k0_off50 (i : grid0.Coords) (c0_i32_158 : BitVec 32) : Fin 2 → Nat :=
  let c13 : Index := 13#32
  let arg1 : BitVec 32 := BitVec.ofNat 32 (i 1).val
  let c2_i32_157 : BitVec 32 := 2#32
  let v315 : BitVec 32 := Scalar.muli arg1 c2_i32_157
  let v316 : BitVec 32 := Scalar.addi v315 c0_i32_158
  let v317 : Index := Scalar.indexCast v316
  ![13, v317.toNat]
def k0_off51 (i : grid0.Coords) (c0_i32_170 : BitVec 32) : Fin 2 → Nat :=
  let c14 : Index := 14#32
  let arg1 : BitVec 32 := BitVec.ofNat 32 (i 1).val
  let c2_i32_169 : BitVec 32 := 2#32
  let v339 : BitVec 32 := Scalar.muli arg1 c2_i32_169
  let v340 : BitVec 32 := Scalar.addi v339 c0_i32_170
  let v341 : Index := Scalar.indexCast v340
  ![14, v341.toNat]
def k0_off52 (i : grid0.Coords) (c0_i32_182 : BitVec 32) : Fin 2 → Nat :=
  let c15 : Index := 15#32
  let arg1 : BitVec 32 := BitVec.ofNat 32 (i 1).val
  let c2_i32_181 : BitVec 32 := 2#32
  let v363 : BitVec 32 := Scalar.muli arg1 c2_i32_181
  let v364 : BitVec 32 := Scalar.addi v363 c0_i32_182
  let v365 : Index := Scalar.indexCast v364
  ![15, v365.toNat]
def k0_off53 (i : grid0.Coords) (c0_i32_194 : BitVec 32) : Fin 2 → Nat :=
  let c16 : Index := 16#32
  let arg1 : BitVec 32 := BitVec.ofNat 32 (i 1).val
  let c2_i32_193 : BitVec 32 := 2#32
  let v387 : BitVec 32 := Scalar.muli arg1 c2_i32_193
  let v388 : BitVec 32 := Scalar.addi v387 c0_i32_194
  let v389 : Index := Scalar.indexCast v388
  ![16, v389.toNat]
def k0_off54 (i : grid0.Coords) (c0_i32_206 : BitVec 32) : Fin 2 → Nat :=
  let c17 : Index := 17#32
  let arg1 : BitVec 32 := BitVec.ofNat 32 (i 1).val
  let c2_i32_205 : BitVec 32 := 2#32
  let v411 : BitVec 32 := Scalar.muli arg1 c2_i32_205
  let v412 : BitVec 32 := Scalar.addi v411 c0_i32_206
  let v413 : Index := Scalar.indexCast v412
  ![17, v413.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S18x72 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S18x72 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2304 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x18 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2304x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2304x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x72 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8x4096x2304 : Shape := ⟨3, ![8, 4096, 2304]⟩
abbrev S8x4096x18 : Shape := ⟨3, ![8, 4096, 18]⟩
abbrev S2304x9216 : Shape := ⟨2, ![2304, 9216]⟩
abbrev S18x72 : Shape := ⟨2, ![18, 72]⟩
abbrev S32768x2304 : Shape := ⟨2, ![32768, 2304]⟩
abbrev S32768x18 : Shape := ⟨2, ![32768, 18]⟩
abbrev S32768x9216 : Shape := ⟨2, ![32768, 9216]⟩
abbrev S32768x72 : Shape := ⟨2, ![32768, 72]⟩
abbrev S32768x18x128 : Shape := ⟨3, ![32768, 18, 128]⟩
abbrev S32768x18x1 : Shape := ⟨3, ![32768, 18, 1]⟩
abbrev S18x128x72x128 : Shape := ⟨4, ![18, 128, 72, 128]⟩
abbrev S18x1x72x1 : Shape := ⟨4, ![18, 1, 72, 1]⟩
abbrev S32768x72x128 : Shape := ⟨3, ![32768, 72, 128]⟩
abbrev S32768x72x1 : Shape := ⟨3, ![32768, 72, 1]⟩

abbrev nBuf : Space → Nat
  | .hbm => 10
  | .vmem => 8
  | .smem => 0
  | _ => 0

abbrev bufTy : (tb : Table) → Fin (tcTables nBuf tb) → BufTy
  | .hbm, ⟨0, _⟩ => ⟨S8x4096x2304, .fp8e4m3⟩
  | .hbm, ⟨1, _⟩ => ⟨S8x4096x18, .f32⟩
  | .hbm, ⟨2, _⟩ => ⟨S2304x9216, .fp8e4m3⟩
  | .hbm, ⟨3, _⟩ => ⟨S18x72, .f32⟩
  | .hbm, ⟨4, _⟩ => ⟨S2304x9216, .fp8e4m3⟩
  | .hbm, ⟨5, _⟩ => ⟨S18x72, .f32⟩
  | .hbm, ⟨6, _⟩ => ⟨S32768x2304, .fp8e4m3⟩
  | .hbm, ⟨7, _⟩ => ⟨S32768x18, .f32⟩
  | .hbm, ⟨8, _⟩ => ⟨S32768x9216, .fp8e4m3⟩
  | .hbm, ⟨9, _⟩ => ⟨S32768x72, .f32⟩
  | .local _ .vmem, ⟨0, _⟩ => ⟨S32768x2304, .fp8e4m3⟩
  | .local _ .vmem, ⟨1, _⟩ => ⟨S32768x18, .f32⟩
  | .local _ .vmem, ⟨2, _⟩ => ⟨S2304x9216, .fp8e4m3⟩
  | .local _ .vmem, ⟨3, _⟩ => ⟨S18x72, .f32⟩
  | .local _ .vmem, ⟨4, _⟩ => ⟨S2304x9216, .fp8e4m3⟩
  | .local _ .vmem, ⟨5, _⟩ => ⟨S18x72, .f32⟩
  | .local _ .vmem, ⟨6, _⟩ => ⟨S32768x9216, .fp8e4m3⟩
  | .local _ .vmem, ⟨7, _⟩ => ⟨S32768x72, .f32⟩
  | _, _ => ⟨S8x4096x2304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S32768x2304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x18 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2304x9216 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18x72 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2304x9216 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S18x72 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x9216 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32768x72 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.FrameBits.Runs.lean ====
/- What the frame runs of the kernel share: the frame claim's post read from a run's post, the branch condition by the
   point, the memrefs that the pipeline passes, and the region's scratch as memrefs. -/
module

public import proofs.«01_k».proof.Proof.Gen.Kernel.Frame
public import proofs.«01_k».proof.Proof.Gen.Kernel.Skeleton
public import proofs.«01_k».proof.Proof.Gen.Kernel.Loops

@[expose] public section

-- membership in a rectangle of production extents (`View.cover_of_tiled`): the elaborator's structural look
-- recurses once per coordinate of the long axes
set_option maxRecDepth 16384

noncomputable section

namespace Cert.Kernel.Proof

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 4 rfl).trans ((hA c 4).trans (V_main_arg2 m c)),
      (Pipeline.RDat.FramePost.arr_in h c 0 rfl).trans ((hA c 0).trans (V_main_arg3 m c)),
      (Pipeline.RDat.FramePost.arr_in h c 5 rfl).trans ((hA c 5).trans (V_main_arg4 m c)),
      (Pipeline.RDat.FramePost.arr_in h c 1 rfl).trans ((hA c 1).trans (V_main_arg5 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 36) — by arithmetic of the point. -/
theorem hcond0_0 : ∀ t : Fin cfg0.N, cond0_0 (grid0.coords t) ↔ t.val % 36 = 0 :=
  (fun t => by
    have ht : t.val < 576 := Nat.lt_of_lt_of_eq t.isLt N_0
    have e0 : (grid0.coords t 0).val = t.val / 36 % 16 := Pipeline.Grid.coords_val t 0 (by decide) rfl
    have e1 : (grid0.coords t 1).val = t.val / 1 % 36 := Pipeline.Grid.coords_val t 1 (by decide) rfl
    simp only [cond0_0, k0_cond1, e0, e1]
    word_cmp
   : ∀ t : Fin grid0.N, cond0_0 (grid0.coords t) ↔ t.val % 36 = 0)

/-! ## The kernel body on any staging memrefs: a subtype the run finds -/

/-- Each window's current staging memref at point `t`, spelled as the pipeline passes it (`bodyAt0`), and its wholeness. -/
abbrev ms0_0 (t : Fin cfg0.N) : Memref sig .tc .smem S18x72 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S18x72 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x2304 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x18 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2304x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2304x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x72 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S2048x2304 .bf16 := Memref.whole cc0_scratch0
abbrev scM0_1 : Memref sig .tc .vmem S2304x256 .bf16 := Memref.whole cc0_scratch1
abbrev scM0_2 : Memref sig .tc .vmem S2304x256 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Proof

end
-- ==== Proof.FrameBits.RunA.lean ====
/- The kernel body's triple in case A of its one branch (taken: the first column of each row of blocks), with nothing named of what it leaves. -/
module

public import proofs.«01_k».proof.Proof.FrameBits.Runs

@[expose] public section

-- membership in a rectangle of production extents (`View.cover_of_tiled`): the elaborator's structural look
-- recurses once per coordinate of the long axes
set_option maxRecDepth 16384

noncomputable section

namespace Cert.Kernel.Proof

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3404000 in
/-- The body's triple IN CASE A (`scf.if` 0 taken: points 0, 36, … 540: 16 of 576): on whole staging memrefs — the inputs' at their contents,
    the FORGOTTEN outputs' (6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .smem S18x72 .f32) (harg2 : arg2.IsWhole) (arg3 : Memref sig .tc .smem S18x72 .f32) (harg3 : arg3.IsWhole) (arg4 : Memref sig .tc .vmem S2048x2304 .fp8e4m3) (harg4 : arg4.IsWhole) (arg5 : Memref sig .tc .vmem S2048x18 .f32) (harg5 : arg5.IsWhole) (arg6 : Memref sig .tc .vmem S2304x256 .fp8e4m3) (harg6 : arg6.IsWhole) (arg7 : Memref sig .tc .vmem S2304x256 .fp8e4m3) (harg7 : arg7.IsWhole) (arg8 : Memref sig .tc .vmem S2048x256 .fp8e4m3) (harg8 : arg8.IsWhole) (arg9 : Memref sig .tc .vmem S2048x72 .f32) (harg9 : arg9.IsWhole) (arg10 : Memref sig .tc .vmem S2048x2304 .bf16) (harg10 : arg10.IsWhole) (arg11 : Memref sig .tc .vmem S2304x256 .bf16) (harg11 : arg11.IsWhole) (arg12 : Memref sig .tc .vmem S2304x256 .bf16) (harg12 : arg12.IsWhole) (hc0 : cond0_0 i)
    (x0 : Vec F S18x72 .f32) (x1 : Vec F S18x72 .f32) (x2 : Vec F S2048x2304 .fp8e4m3) (x3 : Vec F S2048x18 .f32) (x4 : Vec F S2304x256 .fp8e4m3) (x5 : Vec F S2304x256 .fp8e4m3) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_swiglu_fp8 i arg2 harg2 arg3 harg3 arg4 harg4 arg5 harg5 arg6 harg6 arg7 harg7 arg8 harg8 arg9 harg9 arg10 harg10 arg11 harg11 arg12 harg12) K := by
    intro E K
    simp only [cc0_swiglu_fp8_eq_skeleton]; unfold cc0_swiglu_fp8_skel
    simp only [k0_part69_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Proof

end
-- ==== Proof.FrameBits.RunB.lean ====
/- The kernel body's triple in case B of its one branch (not taken), with nothing named of what it leaves. -/
module

public import proofs.«01_k».proof.Proof.FrameBits.RunA

@[expose] public section

-- membership in a rectangle of production extents (`View.cover_of_tiled`): the elaborator's structural look
-- recurses once per coordinate of the long axes
set_option maxRecDepth 16384

noncomputable section

namespace Cert.Kernel.Proof

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3272000 in
/-- The body's triple IN CASE B (`scf.if` 0 not taken: points 1, 2, … 575: 560 of 576): on whole staging memrefs — the inputs' at their contents,
    the FORGOTTEN outputs' (6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .smem S18x72 .f32) (harg2 : arg2.IsWhole) (arg3 : Memref sig .tc .smem S18x72 .f32) (harg3 : arg3.IsWhole) (arg4 : Memref sig .tc .vmem S2048x2304 .fp8e4m3) (harg4 : arg4.IsWhole) (arg5 : Memref sig .tc .vmem S2048x18 .f32) (harg5 : arg5.IsWhole) (arg6 : Memref sig .tc .vmem S2304x256 .fp8e4m3) (harg6 : arg6.IsWhole) (arg7 : Memref sig .tc .vmem S2304x256 .fp8e4m3) (harg7 : arg7.IsWhole) (arg8 : Memref sig .tc .vmem S2048x256 .fp8e4m3) (harg8 : arg8.IsWhole) (arg9 : Memref sig .tc .vmem S2048x72 .f32) (harg9 : arg9.IsWhole) (arg10 : Memref sig .tc .vmem S2048x2304 .bf16) (harg10 : arg10.IsWhole) (arg11 : Memref sig .tc .vmem S2304x256 .bf16) (harg11 : arg11.IsWhole) (arg12 : Memref sig .tc .vmem S2304x256 .bf16) (harg12 : arg12.IsWhole) (hc0 : ¬cond0_0 i)
    (x0 : Vec F S18x72 .f32) (x1 : Vec F S18x72 .f32) (x2 : Vec F S2048x2304 .fp8e4m3) (x3 : Vec F S2048x18 .f32) (x4 : Vec F S2304x256 .fp8e4m3) (x5 : Vec F S2304x256 .fp8e4m3) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_swiglu_fp8 i arg2 harg2 arg3 harg3 arg4 harg4 arg5 harg5 arg6 harg6 arg7 harg7 arg8 harg8 arg9 harg9 arg10 harg10 arg11 harg11 arg12 harg12) K := by
    intro E K
    simp only [cc0_swiglu_fp8_eq_skeleton]; unfold cc0_swiglu_fp8_skel
    simp only [k0_part69_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Proof

end
-- ==== Proof.FrameBits.Frame.lean ====
/- The frame of the kernel: the proof data, the body's obligation, the run, and the argument arrays unchanged with every
   semaphore counter at zero. -/
module

public import proofs.«01_k».proof.Proof.FrameBits.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Proof

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7): nothing reads what the kernel leaves in them, so nothing
    of it is named (Lib/Pipeline/Dat.lean `Dat.toRForget`). -/
def forgets0 : Fin 8 → Bool := fun w => w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hN : t.val < 576 := lt_of_lt_of_eq t.isLt (show cfg0.N = 576 from N_0)
  by_cases h0 : t.val % 36 = 0
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Proof

end
-- ==== Proof.Run.Setup.lean ====
/- The kernel body at one grid point: the branch condition by the point, the memrefs that the pipeline passes, and the
   region's scratch as memrefs. -/
module

public import proofs.«01_k».proof.Proof.Gen.KernelIdeal.Frame
public import proofs.«01_k».proof.Proof.Gen.KernelIdeal.Loops

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 36) — by arithmetic of the point. -/
theorem hcond0_0 : ∀ t : Fin cfg0.N, cond0_0 (grid0.coords t) ↔ t.val % 36 = 0 :=
  (fun t => by
    have ht : t.val < 576 := Nat.lt_of_lt_of_eq t.isLt N_0
    have e0 : (grid0.coords t 0).val = t.val / 36 % 16 := Pipeline.Grid.coords_val t 0 (by decide) rfl
    have e1 : (grid0.coords t 1).val = t.val / 1 % 36 := Pipeline.Grid.coords_val t 1 (by decide) rfl
    simp only [cond0_0, k0_cond1, e0, e1]
    word_cmp
   : ∀ t : Fin grid0.N, cond0_0 (grid0.coords t) ↔ t.val % 36 = 0)

/-! ## The memrefs the pipeline passes -/

/-- Each window's current staging memref at point `t`, spelled as the pipeline passes it (`bodyAt0`), and its wholeness. -/
abbrev ms0_0 (t : Fin cfg0.N) : Memref sig .tc .smem S18x72 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S18x72 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x2304 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x18 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2304x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2304x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x72 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S2048x2304 .bf16 := Memref.whole cc0_scratch0
abbrev scM0_1 : Memref sig .tc .vmem S2304x256 .bf16 := Memref.whole cc0_scratch1
abbrev scM0_2 : Memref sig .tc .vmem S2304x256 .bf16 := Memref.whole cc0_scratch2

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Proof

end
-- ==== Proof.Value.Chunk.lean ====
/- One chunk of 256 rows: the kernel's arithmetic on it as functions of the widened rows and weights. -/
module

public import proofs.«01_k».proof.Proof.Gen.KernelIdeal.Skeleton

@[expose] public section

set_option maxRecDepth 16384

noncomputable section

namespace Cert.KernelIdeal.Proof

open Cert.KernelIdeal Cert.KernelIdeal.Gen
open Idealize.ShloMosaic Idealize.ShloMosaic.TcCoe

variable {F : FTy → Type} [FloatOps F]

/-- `silu (x · wg) * (x · wu)` on 256 rows and 256 columns. -/
def chunkH (x : Vec F S256x2304 .bf16) (wg wu : Vec F S2304x256 .bf16) : FVec F S256x256 .f32 := k0_pay132 x wg wu

/-- The first group of 128 columns. -/
def group0 (h : FVec F S256x256 .f32) : FVec F S256x128 .f32 :=
  extractStridedSlice S256x128 ![0, 0] h slices_S256x256_o0_0_S256x128

/-- The second group of 128 columns. -/
def group1 (h : FVec F S256x256 .f32) : FVec F S256x128 .f32 :=
  extractStridedSlice S256x128 ![0, 128] h slices_S256x256_o0_128_S256x128

/-- A group's largest magnitude along the row, divided by 448, copied to every lane. -/
def mean (g : FVec F S256x128 .f32) : FVec F S256x128 .f32 :=
  mulf (broadcastTo S256x128 (shapeCast S256x1 (shapeCast S256x1 (multiReduction .maximumf [1] S256 (absf g) 0xFF800000#32 reduces_S256x128_S256 (.inl rfl) rfl) shapeCasts_S256_S256x1) shapeCasts_S256x1_S256x1) broadcasts_S256x1_S256x128) (broadcast S256x128 (Scalar.ofBits .f32 0x3B124925#32))

/-- One step of the search for the exponent field: add `b` when the float with the larger field is still at most `y`. -/
def step (y : FVec F S256x128 .f32) (b : BitVec 32) (f : IVec S256x128 32) : IVec S256x128 32 :=
  select (cmpf .oge y (bitcastToFloat .f32 (shli (addi f (broadcast S256x128 b)) (broadcast S256x128 23#32)))) (addi f (broadcast S256x128 b)) f

/-- The exponent field that the search finds. -/
def field (y : FVec F S256x128 .f32) : IVec S256x128 32 :=
  step y 1#32 (step y 2#32 (step y 4#32 (step y 8#32 (step y 16#32 (step y 32#32 (step y 64#32 (step y 128#32 (broadcast S256x128 0#32))))))))

/-- The exponent of the group's scale. -/
def expo (y : FVec F S256x128 .f32) : IVec S256x128 32 :=
  select (ori (cmpi .eq (field y) (broadcast S256x128 0#32)) (cmpi .eq (field y) (broadcast S256x128 255#32))) (broadcast S256x128 0#32) (subi (field y) (broadcast S256x128 126#32))

/-- The group's scale, a power of two, in every lane. -/
def scaleOf (y : FVec F S256x128 .f32) : FVec F S256x128 .f32 :=
  bitcastToFloat .f32 (shli (addi (expo y) (broadcast S256x128 127#32)) (broadcast S256x128 23#32))

/-- The inverse of the group's scale in every lane. -/
def invOf (y : FVec F S256x128 .f32) : FVec F S256x128 .f32 :=
  bitcastToFloat .f32 (shli (maxsi (subi (broadcast S256x128 127#32) (expo y)) (broadcast S256x128 0#32)) (broadcast S256x128 23#32))

/-- The group's fp8 codes. -/
def codesOf (g : FVec F S256x128 .f32) : FVec F S256x128 .fp8e4m3 :=
  truncf .fp8e4m3 (minimumf (broadcast S256x128 (Scalar.ofBits .f32 0x43E00000#32)) (maximumf (broadcast S256x128 (Scalar.ofBits .f32 0xC3E00000#32)) (mulf g (invOf (mean g))))) bitsLt_fp8e4m3_f32

/-- The chunk's row of scales with the group's own put at its column, `2 j + n`. -/
def putScale (j n : BitVec 32) (g : FVec F S256x128 .f32) (sc : FVec F S256x72 .f32) : FVec F S256x72 .f32 :=
  select (cmpi .eq (iota (.tc) S256x72 32 [1] (by decide)) (broadcast S256x72 (Scalar.addi (Scalar.muli j 2#32) n))) (extractStridedSlice S256x72 ![0, 0] (scaleOf (mean g)) slices_S256x128_o0_0_S256x72) sc

/-- The chunk's row of scales with both groups' put in. -/
def putScales (j : BitVec 32) (h : FVec F S256x256 .f32) (sc : FVec F S256x72 .f32) : FVec F S256x72 .f32 :=
  putScale j 1#32 (group1 h) (putScale j 0#32 (group0 h) sc)

end Cert.KernelIdeal.Proof

end
-- ==== Proof.Value.Blocks.lean ====
/- The pieces that a grid point writes into the codes' and the scales' blocks, and the blocks they leave. -/
module

public import proofs.«01_k».proof.Proof.Value.Chunk
public import Idealize.ShloMosaic.Lib.Pipeline.Value
public import Idealize.ShloMosaic.Lib.Pointwise
public import Idealize.ShloMosaic.Lib.WholeRead

@[expose] public section

set_option maxRecDepth 65536

noncomputable section

namespace Cert.KernelIdeal.Proof

open Cert.KernelIdeal Cert.KernelIdeal.Gen
open Idealize.ShloMosaic Idealize.ShloMosaic.TcCoe

variable {F : FTy → Type} [FloatOps F]

/-- Chunk `q` of the rows. -/
def rowsOf {n : Nat} {e : EltTy} (q : Fin 8) (x : Vec F (⟨2, ![2048, n]⟩ : Shape) e) : Vec F (⟨2, ![256, n]⟩ : Shape) e := fun z =>
  x (ix2 (n0 := 2048) (n1 := n) ⟨q.val * 256 + (z 0).val, by have := (z 0).isLt; change _ < 256 at this; omega⟩ (z 1))

/-- The chunk that a row is in. -/
def chunkOf (r : Fin 2048) : Fin 8 := ⟨r.val / 256, by omega⟩

/-- The row's place in its chunk. -/
def inChunk (r : Fin 2048) : Fin 256 := ⟨r.val % 256, by omega⟩

/-- The group of 128 columns `n`. -/
def groupOf (n : Nat) (h : FVec F S256x256 .f32) : FVec F S256x128 .f32 := if n = 0 then group0 h else group1 h

/-- The codes' block that one grid point leaves. -/
def codesBlk (x : Vec F S2048x2304 .bf16) (wg wu : Vec F S2304x256 .bf16) : Vec F S2048x256 .fp8e4m3 := fun y =>
  codesOf (groupOf ((y 1).val / 128) (chunkH (rowsOf (chunkOf (y 0)) x) wg wu)) (ix2 (inChunk (y 0)) ⟨(y 1).val % 128, Nat.mod_lt _ (by decide)⟩)

/-- The scales' block that one grid point of column `j` leaves over the block `sc`. -/
def scalesBlk (j : BitVec 32) (x : Vec F S2048x2304 .bf16) (wg wu : Vec F S2304x256 .bf16) (sc : Vec F S2048x72 .f32) : Vec F S2048x72 .f32 := fun y =>
  putScales j (chunkH (rowsOf (chunkOf (y 0)) x) wg wu) (rowsOf (chunkOf (y 0)) sc) (ix2 (inChunk (y 0)) (y 1))

variable (a9 : Memref sig .tc .vmem S2048x72 .f32) (f9 : BufTy.Contents (Elt F) a9.view.ty)
  (a10 : Memref sig .tc .vmem S2048x2304 .bf16) (f10 : BufTy.Contents (Elt F) a10.view.ty) (wg wu : Vec F S2304x256 .bf16) (j : BitVec 32)

/-- The 16 stores of codes, last first. -/
def codesPieces : List (View.Piece (Elt F) S2048x256 .fp8e4m3) :=
  [⟨Rect.unit (s := S2048x256) ![1792, 128] S256x128.size (by decide +kernel), codesOf (group1 (chunkH (View.readAt (Elt F) a10.view (Rect.unit (s := S2048x2304) ![1792, 0] S256x2304.size (by decide +kernel)).toLoadRect f10) wg wu))⟩,
   ⟨Rect.unit (s := S2048x256) ![1792, 0] S256x128.size (by decide +kernel), codesOf (group0 (chunkH (View.readAt (Elt F) a10.view (Rect.unit (s := S2048x2304) ![1792, 0] S256x2304.size (by decide +kernel)).toLoadRect f10) wg wu))⟩,
   ⟨Rect.unit (s := S2048x256) ![1536, 128] S256x128.size (by decide +kernel), codesOf (group1 (chunkH (View.readAt (Elt F) a10.view (Rect.unit (s := S2048x2304) ![1536, 0] S256x2304.size (by decide +kernel)).toLoadRect f10) wg wu))⟩,
   ⟨Rect.unit (s := S2048x256) ![1536, 0] S256x128.size (by decide +kernel), codesOf (group0 (chunkH (View.readAt (Elt F) a10.view (Rect.unit (s := S2048x2304) ![1536, 0] S256x2304.size (by decide +kernel)).toLoadRect f10) wg wu))⟩,
   ⟨Rect.unit (s := S2048x256) ![1280, 128] S256x128.size (by decide +kernel), codesOf (group1 (chunkH (View.readAt (Elt F) a10.view (Rect.unit (s := S2048x2304) ![1280, 0] S256x2304.size (by decide +kernel)).toLoadRect f10) wg wu))⟩,
   ⟨Rect.unit (s := S2048x256) ![1280, 0] S256x128.size (by decide +kernel), codesOf (group0 (chunkH (View.readAt (Elt F) a10.view (Rect.unit (s := S2048x2304) ![1280, 0] S256x2304.size (by decide +kernel)).toLoadRect f10) wg wu))⟩,
   ⟨Rect.unit (s := S2048x256) ![1024, 128] S256x128.size (by decide +kernel), codesOf (group1 (chunkH (View.readAt (Elt F) a10.view (Rect.unit (s := S2048x2304) ![1024, 0] S256x2304.size (by decide +kernel)).toLoadRect f10) wg wu))⟩,
   ⟨Rect.unit (s := S2048x256) ![1024, 0] S256x128.size (by decide +kernel), codesOf (group0 (chunkH (View.readAt (Elt F) a10.view (Rect.unit (s := S2048x2304) ![1024, 0] S256x2304.size (by decide +kernel)).toLoadRect f10) wg wu))⟩,
   ⟨Rect.unit (s := S2048x256) ![768, 128] S256x128.size (by decide +kernel), codesOf (group1 (chunkH (View.readAt (Elt F) a10.view (Rect.unit (s := S2048x2304) ![768, 0] S256x2304.size (by decide +kernel)).toLoadRect f10) wg wu))⟩,
   ⟨Rect.unit (s := S2048x256) ![768, 0] S256x128.size (by decide +kernel), codesOf (group0 (chunkH (View.readAt (Elt F) a10.view (Rect.unit (s := S2048x2304) ![768, 0] S256x2304.size (by decide +kernel)).toLoadRect f10) wg wu))⟩,
   ⟨Rect.unit (s := S2048x256) ![512, 128] S256x128.size (by decide +kernel), codesOf (group1 (chunkH (View.readAt (Elt F) a10.view (Rect.unit (s := S2048x2304) ![512, 0] S256x2304.size (by decide +kernel)).toLoadRect f10) wg wu))⟩,
   ⟨Rect.unit (s := S2048x256) ![512, 0] S256x128.size (by decide +kernel), codesOf (group0 (chunkH (View.readAt (Elt F) a10.view (Rect.unit (s := S2048x2304) ![512, 0] S256x2304.size (by decide +kernel)).toLoadRect f10) wg wu))⟩,
   ⟨Rect.unit (s := S2048x256) ![256, 128] S256x128.size (by decide +kernel), codesOf (group1 (chunkH (View.readAt (Elt F) a10.view (Rect.unit (s := S2048x2304) ![256, 0] S256x2304.size (by decide +kernel)).toLoadRect f10) wg wu))⟩,
   ⟨Rect.unit (s := S2048x256) ![256, 0] S256x128.size (by decide +kernel), codesOf (group0 (chunkH (View.readAt (Elt F) a10.view (Rect.unit (s := S2048x2304) ![256, 0] S256x2304.size (by decide +kernel)).toLoadRect f10) wg wu))⟩,
   ⟨Rect.unit (s := S2048x256) ![0, 128] S256x128.size (by decide +kernel), codesOf (group1 (chunkH (View.readAt (Elt F) a10.view (Rect.unit (s := S2048x2304) ![0, 0] S256x2304.size (by decide +kernel)).toLoadRect f10) wg wu))⟩,
   ⟨Rect.unit (s := S2048x256) ![0, 0] S256x128.size (by decide +kernel), codesOf (group0 (chunkH (View.readAt (Elt F) a10.view (Rect.unit (s := S2048x2304) ![0, 0] S256x2304.size (by decide +kernel)).toLoadRect f10) wg wu))⟩]

/-- The 8 stores of scales, last first. -/
def scalesPieces : List (View.Piece (Elt F) S2048x72 .f32) :=
  [⟨Rect.unit (s := S2048x72) ![1792, 0] S256x72.size (by decide +kernel), putScales j (chunkH (View.readAt (Elt F) a10.view (Rect.unit (s := S2048x2304) ![1792, 0] S256x2304.size (by decide +kernel)).toLoadRect f10) wg wu) (shapeCast S256x72 (View.readAt (Elt F) a9.view (Rect.unit (s := S2048x72) ![1792, 0] S256x72.size (by decide +kernel)).toLoadRect f9) shapeCasts_S256x72_S256x72)⟩,
   ⟨Rect.unit (s := S2048x72) ![1536, 0] S256x72.size (by decide +kernel), putScales j (chunkH (View.readAt (Elt F) a10.view (Rect.unit (s := S2048x2304) ![1536, 0] S256x2304.size (by decide +kernel)).toLoadRect f10) wg wu) (shapeCast S256x72 (View.readAt (Elt F) a9.view (Rect.unit (s := S2048x72) ![1536, 0] S256x72.size (by decide +kernel)).toLoadRect f9) shapeCasts_S256x72_S256x72)⟩,
   ⟨Rect.unit (s := S2048x72) ![1280, 0] S256x72.size (by decide +kernel), putScales j (chunkH (View.readAt (Elt F) a10.view (Rect.unit (s := S2048x2304) ![1280, 0] S256x2304.size (by decide +kernel)).toLoadRect f10) wg wu) (shapeCast S256x72 (View.readAt (Elt F) a9.view (Rect.unit (s := S2048x72) ![1280, 0] S256x72.size (by decide +kernel)).toLoadRect f9) shapeCasts_S256x72_S256x72)⟩,
   ⟨Rect.unit (s := S2048x72) ![1024, 0] S256x72.size (by decide +kernel), putScales j (chunkH (View.readAt (Elt F) a10.view (Rect.unit (s := S2048x2304) ![1024, 0] S256x2304.size (by decide +kernel)).toLoadRect f10) wg wu) (shapeCast S256x72 (View.readAt (Elt F) a9.view (Rect.unit (s := S2048x72) ![1024, 0] S256x72.size (by decide +kernel)).toLoadRect f9) shapeCasts_S256x72_S256x72)⟩,
   ⟨Rect.unit (s := S2048x72) ![768, 0] S256x72.size (by decide +kernel), putScales j (chunkH (View.readAt (Elt F) a10.view (Rect.unit (s := S2048x2304) ![768, 0] S256x2304.size (by decide +kernel)).toLoadRect f10) wg wu) (shapeCast S256x72 (View.readAt (Elt F) a9.view (Rect.unit (s := S2048x72) ![768, 0] S256x72.size (by decide +kernel)).toLoadRect f9) shapeCasts_S256x72_S256x72)⟩,
   ⟨Rect.unit (s := S2048x72) ![512, 0] S256x72.size (by decide +kernel), putScales j (chunkH (View.readAt (Elt F) a10.view (Rect.unit (s := S2048x2304) ![512, 0] S256x2304.size (by decide +kernel)).toLoadRect f10) wg wu) (shapeCast S256x72 (View.readAt (Elt F) a9.view (Rect.unit (s := S2048x72) ![512, 0] S256x72.size (by decide +kernel)).toLoadRect f9) shapeCasts_S256x72_S256x72)⟩,
   ⟨Rect.unit (s := S2048x72) ![256, 0] S256x72.size (by decide +kernel), putScales j (chunkH (View.readAt (Elt F) a10.view (Rect.unit (s := S2048x2304) ![256, 0] S256x2304.size (by decide +kernel)).toLoadRect f10) wg wu) (shapeCast S256x72 (View.readAt (Elt F) a9.view (Rect.unit (s := S2048x72) ![256, 0] S256x72.size (by decide +kernel)).toLoadRect f9) shapeCasts_S256x72_S256x72)⟩,
   ⟨Rect.unit (s := S2048x72) ![0, 0] S256x72.size (by decide +kernel), putScales j (chunkH (View.readAt (Elt F) a10.view (Rect.unit (s := S2048x2304) ![0, 0] S256x2304.size (by decide +kernel)).toLoadRect f10) wg wu) (shapeCast S256x72 (View.readAt (Elt F) a9.view (Rect.unit (s := S2048x72) ![0, 0] S256x72.size (by decide +kernel)).toLoadRect f9) shapeCasts_S256x72_S256x72)⟩]

variable (x : Vec F S2048x2304 .bf16) (hx : a10.view.read (Elt F) f10 = x) (sc : Vec F S2048x72 .f32) (hsc : a9.view.read (Elt F) f9 = sc)

include hx in
/-- A load of chunk `q` of the scratch. -/
theorem read_rows (q : Fin 8) (o : Nat) (ho : o = q.val * 256) (inb : ∀ a, (![o, 0] : Fin 2 → Nat) a + S256x2304.size a ≤ S2048x2304.size a) :
    View.readAt (Elt F) a10.view (Rect.unit (s := S2048x2304) ![o, 0] S256x2304.size inb).toLoadRect f10 = rowsOf q x := by
  subst ho hx
  funext z
  show a10.view.read (Elt F) f10 _ = a10.view.read (Elt F) f10 _
  refine congrArg _ (funext fun a => Fin.ext ?_)
  match a with
  | ⟨0, _⟩ => show q.val * 256 + 1 * (z 0).val = q.val * 256 + (z 0).val; omega
  | ⟨1, _⟩ => show 0 + 1 * (z 1).val = (z 1).val; omega

include hsc in
/-- A load of chunk `q` of the scales. -/
theorem read_sc (q : Fin 8) (o : Nat) (ho : o = q.val * 256) (inb : ∀ a, (![o, 0] : Fin 2 → Nat) a + S256x72.size a ≤ S2048x72.size a) :
    shapeCast S256x72 (View.readAt (Elt F) a9.view (Rect.unit (s := S2048x72) ![o, 0] S256x72.size inb).toLoadRect f9) shapeCasts_S256x72_S256x72 = rowsOf q sc := by
  subst ho hsc
  refine (Idealize.ShloMosaic.shapeCast_self (s := S256x72) _ _).trans ?_
  funext z
  show a9.view.read (Elt F) f9 _ = a9.view.read (Elt F) f9 _
  refine congrArg _ (funext fun a => Fin.ext ?_)
  match a with
  | ⟨0, _⟩ => show q.val * 256 + 1 * (z 0).val = q.val * 256 + (z 0).val; omega
  | ⟨1, _⟩ => show 0 + 1 * (z 1).val = (z 1).val; omega

include hx in
/-- One store of codes writes its part of the block. -/
theorem codesPiece (q : Fin 8) (n : Nat) (hn : n < 2) (o r1 : Nat) (ho : o = q.val * 256) (h1 : r1 = n * 128)
    (inb' : ∀ a, (![o, 0] : Fin 2 → Nat) a + S256x2304.size a ≤ S2048x2304.size a)
    (inb : ∀ a, (![o, r1] : Fin 2 → Nat) a + S256x128.size a ≤ S2048x256.size a)
    (z : S256x128.Idx) :
    codesOf (groupOf n (chunkH (View.readAt (Elt F) a10.view (Rect.unit (s := S2048x2304) ![o, 0] S256x2304.size inb').toLoadRect f10) wg wu)) z
      = codesBlk x wg wu ((Rect.unit (s := S2048x256) ![o, r1] S256x128.size inb).emb z) := by
  rw [read_rows a10 f10 x hx q o ho]
  have z0 : (z 0).val < 256 := (z 0).isLt
  have z1 : (z 1).val < 128 := (z 1).isLt
  have q8 := q.isLt
  subst ho h1
  have e0 : (((Rect.unit (s := S2048x256) ![q.val * 256, n * 128] S256x128.size inb).emb z) 0).val = q.val * 256 + (z 0).val := by
    show q.val * 256 + 1 * (z 0).val = _; omega
  have e1 : (((Rect.unit (s := S2048x256) ![q.val * 256, n * 128] S256x128.size inb).emb z) 1).val = n * 128 + (z 1).val := by
    show n * 128 + 1 * (z 1).val = _; omega
  unfold codesBlk
  have c1 : chunkOf (((Rect.unit (s := S2048x256) ![q.val * 256, n * 128] S256x128.size inb).emb z) 0) = q := by
    apply Fin.ext; show _ / 256 = _; rw [e0]; omega
  have c2 : (((Rect.unit (s := S2048x256) ![q.val * 256, n * 128] S256x128.size inb).emb z) 1).val / 128 = n := by rw [e1]; omega
  rw [c1, c2]
  refine congrArg _ (funext fun a => Fin.ext ?_)
  match a with
  | ⟨0, _⟩ => show (z 0).val = _ % 256; rw [e0]; omega
  | ⟨1, _⟩ => show (z 1).val = _ % 128; rw [e1]; omega

include hx hsc in
/-- One store of scales writes its part of the block. -/
theorem scalesPiece (q : Fin 8) (o : Nat) (ho : o = q.val * 256)
    (inb' : ∀ a, (![o, 0] : Fin 2 → Nat) a + S256x2304.size a ≤ S2048x2304.size a)
    (inb : ∀ a, (![o, 0] : Fin 2 → Nat) a + S256x72.size a ≤ S2048x72.size a)
    (z : S256x72.Idx) :
    putScales j (chunkH (View.readAt (Elt F) a10.view (Rect.unit (s := S2048x2304) ![o, 0] S256x2304.size inb').toLoadRect f10) wg wu)
        (shapeCast S256x72 (View.readAt (Elt F) a9.view (Rect.unit (s := S2048x72) ![o, 0] S256x72.size inb).toLoadRect f9) shapeCasts_S256x72_S256x72) z
      = scalesBlk j x wg wu sc ((Rect.unit (s := S2048x72) ![o, 0] S256x72.size inb).emb z) := by
  rw [read_rows a10 f10 x hx q o ho, read_sc a9 f9 sc hsc q o ho]
  have z0 : (z 0).val < 256 := (z 0).isLt
  have q8 := q.isLt
  subst ho
  have e0 : (((Rect.unit (s := S2048x72) ![q.val * 256, 0] S256x72.size inb).emb z) 0).val = q.val * 256 + (z 0).val := by
    show q.val * 256 + 1 * (z 0).val = _; omega
  have e1 : (((Rect.unit (s := S2048x72) ![q.val * 256, 0] S256x72.size inb).emb z) 1).val = (z 1).val := by
    show 0 + 1 * (z 1).val = _; omega
  unfold scalesBlk
  have c1 : chunkOf (((Rect.unit (s := S2048x72) ![q.val * 256, 0] S256x72.size inb).emb z) 0) = q := by
    apply Fin.ext; show _ / 256 = _; rw [e0]; omega
  rw [c1]
  refine congrArg _ (funext fun a => Fin.ext ?_)
  match a with
  | ⟨0, _⟩ => show (z 0).val = _ % 256; rw [e0]; omega
  | ⟨1, _⟩ => exact e1.symm

include hx in
/-- The codes' block after the stores. -/
theorem read_codes (a8 : Memref sig .tc .vmem S2048x256 .fp8e4m3) (f8 : BufTy.Contents (Elt F) a8.view.ty) :
    a8.view.read (Elt F) (a8.view.writes (Elt F) f8 (codesPieces a10 f10 wg wu)) = codesBlk x wg wu := by
  funext y
  refine View.read_writes_apply_of_pieces a8.view f8 (codesBlk x wg wu) (codesPieces a10 f10 wg wu) ?_ y (View.cover_of_tiled (codesPieces a10 f10 wg wu) S256x128.size (by rfl) y)
  unfold codesPieces
  simp only [List.forall_mem_cons]
  refine ⟨
fun z => codesPiece a10 f10 wg wu x hx 7 1 (by decide) _ _ rfl rfl _ _ z,
    fun z => codesPiece a10 f10 wg wu x hx 7 0 (by decide) _ _ rfl rfl _ _ z,
    fun z => codesPiece a10 f10 wg wu x hx 6 1 (by decide) _ _ rfl rfl _ _ z,
    fun z => codesPiece a10 f10 wg wu x hx 6 0 (by decide) _ _ rfl rfl _ _ z,
    fun z => codesPiece a10 f10 wg wu x hx 5 1 (by decide) _ _ rfl rfl _ _ z,
    fun z => codesPiece a10 f10 wg wu x hx 5 0 (by decide) _ _ rfl rfl _ _ z,
    fun z => codesPiece a10 f10 wg wu x hx 4 1 (by decide) _ _ rfl rfl _ _ z,
    fun z => codesPiece a10 f10 wg wu x hx 4 0 (by decide) _ _ rfl rfl _ _ z,
    fun z => codesPiece a10 f10 wg wu x hx 3 1 (by decide) _ _ rfl rfl _ _ z,
    fun z => codesPiece a10 f10 wg wu x hx 3 0 (by decide) _ _ rfl rfl _ _ z,
    fun z => codesPiece a10 f10 wg wu x hx 2 1 (by decide) _ _ rfl rfl _ _ z,
    fun z => codesPiece a10 f10 wg wu x hx 2 0 (by decide) _ _ rfl rfl _ _ z,
    fun z => codesPiece a10 f10 wg wu x hx 1 1 (by decide) _ _ rfl rfl _ _ z,
    fun z => codesPiece a10 f10 wg wu x hx 1 0 (by decide) _ _ rfl rfl _ _ z,
    fun z => codesPiece a10 f10 wg wu x hx 0 1 (by decide) _ _ rfl rfl _ _ z,
    fun z => codesPiece a10 f10 wg wu x hx 0 0 (by decide) _ _ rfl rfl _ _ z,
    fun _ h => absurd h List.not_mem_nil⟩

include hx hsc in
/-- The scales' block after the stores. -/
theorem read_scales (g9 : BufTy.Contents (Elt F) a9.view.ty) :
    a9.view.read (Elt F) (a9.view.writes (Elt F) g9 (scalesPieces a9 f9 a10 f10 wg wu j)) = scalesBlk j x wg wu sc := by
  funext y
  refine View.read_writes_apply_of_pieces a9.view g9 (scalesBlk j x wg wu sc) (scalesPieces a9 f9 a10 f10 wg wu j) ?_ y (View.cover_of_tiled (scalesPieces a9 f9 a10 f10 wg wu j) S256x72.size (by rfl) y)
  unfold scalesPieces
  simp only [List.forall_mem_cons]
  refine ⟨
fun z => scalesPiece a9 f9 a10 f10 wg wu j x hx sc hsc 7 _ rfl _ _ z,
    fun z => scalesPiece a9 f9 a10 f10 wg wu j x hx sc hsc 6 _ rfl _ _ z,
    fun z => scalesPiece a9 f9 a10 f10 wg wu j x hx sc hsc 5 _ rfl _ _ z,
    fun z => scalesPiece a9 f9 a10 f10 wg wu j x hx sc hsc 4 _ rfl _ _ z,
    fun z => scalesPiece a9 f9 a10 f10 wg wu j x hx sc hsc 3 _ rfl _ _ z,
    fun z => scalesPiece a9 f9 a10 f10 wg wu j x hx sc hsc 2 _ rfl _ _ z,
    fun z => scalesPiece a9 f9 a10 f10 wg wu j x hx sc hsc 1 _ rfl _ _ z,
    fun z => scalesPiece a9 f9 a10 f10 wg wu j x hx sc hsc 0 _ rfl _ _ z,
    fun _ h => absurd h List.not_mem_nil⟩

end Cert.KernelIdeal.Proof

end
-- ==== Proof.Run.CaseA.lean ====
/- The kernel body's run at the first column block of a row block: the loop widens the rows into the scratch first. -/
module

public import proofs.«01_k».proof.Proof.Run.Setup

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3272000 in
/-- The kernel body at the first column block of a row block: the loop widens the rows into the scratch first. From whole memrefs — the six inputs at `x0 … x5`, the codes' block at anything, the scales'
    block at `x7` — the body ends with the inputs as they were and with the codes' and the scales' blocks written by the
    pieces `L6` and `L7`, which the run finds. -/
def runA (c : Dev nD) (i : grid0.Coords) (arg2 : Memref sig .tc .smem S18x72 .f32) (harg2 : arg2.IsWhole) (arg3 : Memref sig .tc .smem S18x72 .f32) (harg3 : arg3.IsWhole) (arg4 : Memref sig .tc .vmem S2048x2304 .fp8e4m3) (harg4 : arg4.IsWhole) (arg5 : Memref sig .tc .vmem S2048x18 .f32) (harg5 : arg5.IsWhole) (arg6 : Memref sig .tc .vmem S2304x256 .fp8e4m3) (harg6 : arg6.IsWhole) (arg7 : Memref sig .tc .vmem S2304x256 .fp8e4m3) (harg7 : arg7.IsWhole) (arg8 : Memref sig .tc .vmem S2048x256 .fp8e4m3) (harg8 : arg8.IsWhole) (arg9 : Memref sig .tc .vmem S2048x72 .f32) (harg9 : arg9.IsWhole) (arg10 : Memref sig .tc .vmem S2048x2304 .bf16) (harg10 : arg10.IsWhole) (arg11 : Memref sig .tc .vmem S2304x256 .bf16) (harg11 : arg11.IsWhole) (arg12 : Memref sig .tc .vmem S2304x256 .bf16) (harg12 : arg12.IsWhole) (hc0 : cond0_0 i)
    (x0 : Vec F S18x72 .f32) (x1 : Vec F S18x72 .f32) (x2 : Vec F S2048x2304 .fp8e4m3) (x3 : Vec F S2048x18 .f32) (x4 : Vec F S2304x256 .fp8e4m3) (x5 : Vec F S2304x256 .fp8e4m3) (x7 : Vec F S2048x72 .f32) (fs0 : BufTy.Contents (Elt F) arg10.view.ty) :
    Σ' (LS : List (View.Piece (Elt F) S2048x2304 .bf16)) (L6 : List (View.Piece (Elt F) S2048x256 .fp8e4m3)), { L7 : List (View.Piece (Elt F) S2048x72 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ (arg10.view.loc (c : Thread nD τ) ↦[arg10.view.set]{fullShare} fs0) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (arg9.view.loc (c : Thread nD τ) ↦[arg9.view.set]{fullShare} arg9.view.writes (Elt F) (harg9.unread x7) L7) ∗ (arg10.view.loc (c : Thread nD τ) ↦[arg10.view.set]{fullShare} arg10.view.writes (Elt F) fs0 LS) ∗ (∃ d, owns (c : Thread nD τ) arg11 fullShare d) ∗ (∃ d, owns (c : Thread nD τ) arg12 fullShare d)) -∗ K ⟨⟩))
          ⊢ wp frame (wpE (defs₀ (F := F)) Variants.none c none) E (cc0_swiglu_fp8 i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_swiglu_fp8_eq_skeleton]; unfold cc0_swiglu_fp8_skel
    simp only [k0_part69_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, HS0, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists f6; iexact H6
    isplitl [H7]
    · iexact H7
    isplitl [HS0]
    · iexact HS0
    isplitl [HS1]
    · iexists _, _; isplitr; swap; · iexact HS1
      ipureintro; rfl
    iexists _, _; isplitr; swap; · iexact HS2
    ipureintro; rfl

end Cert.KernelIdeal.Proof

end
-- ==== Proof.Run.CaseB.lean ====
/- The kernel body's run after the first column block of a row block: the scratch holds the widened rows `xs` already. -/
module

public import proofs.«01_k».proof.Proof.Run.CaseA

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3272000 in
/-- The kernel body after the first column block of a row block: the scratch holds the widened rows `xs` already. From whole memrefs — the six inputs at `x0 … x5`, the codes' block at anything, the scales'
    block at `x7` — the body ends with the inputs as they were and with the codes' and the scales' blocks written by the
    pieces `L6` and `L7`, which the run finds. -/
def runB (c : Dev nD) (i : grid0.Coords) (arg2 : Memref sig .tc .smem S18x72 .f32) (harg2 : arg2.IsWhole) (arg3 : Memref sig .tc .smem S18x72 .f32) (harg3 : arg3.IsWhole) (arg4 : Memref sig .tc .vmem S2048x2304 .fp8e4m3) (harg4 : arg4.IsWhole) (arg5 : Memref sig .tc .vmem S2048x18 .f32) (harg5 : arg5.IsWhole) (arg6 : Memref sig .tc .vmem S2304x256 .fp8e4m3) (harg6 : arg6.IsWhole) (arg7 : Memref sig .tc .vmem S2304x256 .fp8e4m3) (harg7 : arg7.IsWhole) (arg8 : Memref sig .tc .vmem S2048x256 .fp8e4m3) (harg8 : arg8.IsWhole) (arg9 : Memref sig .tc .vmem S2048x72 .f32) (harg9 : arg9.IsWhole) (arg10 : Memref sig .tc .vmem S2048x2304 .bf16) (harg10 : arg10.IsWhole) (arg11 : Memref sig .tc .vmem S2304x256 .bf16) (harg11 : arg11.IsWhole) (arg12 : Memref sig .tc .vmem S2304x256 .bf16) (harg12 : arg12.IsWhole) (hc0 : ¬cond0_0 i)
    (x0 : Vec F S18x72 .f32) (x1 : Vec F S18x72 .f32) (x2 : Vec F S2048x2304 .fp8e4m3) (x3 : Vec F S2048x18 .f32) (x4 : Vec F S2304x256 .fp8e4m3) (x5 : Vec F S2304x256 .fp8e4m3) (x7 : Vec F S2048x72 .f32) (xs : Vec F S2048x2304 .bf16) :
    Σ' (L6 : List (View.Piece (Elt F) S2048x256 .fp8e4m3)), { L7 : List (View.Piece (Elt F) S2048x72 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ owns (c : Thread nD τ) arg10 fullShare xs ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (arg9.view.loc (c : Thread nD τ) ↦[arg9.view.set]{fullShare} arg9.view.writes (Elt F) (harg9.unread x7) L7) ∗ owns (c : Thread nD τ) arg10 fullShare xs ∗ (∃ d, owns (c : Thread nD τ) arg11 fullShare d) ∗ (∃ d, owns (c : Thread nD τ) arg12 fullShare d)) -∗ K ⟨⟩))
          ⊢ wp frame (wpE (defs₀ (F := F)) Variants.none c none) E (cc0_swiglu_fp8 i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0_swiglu_fp8_eq_skeleton]; unfold cc0_swiglu_fp8_skel
    simp only [k0_part69_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hf7
    obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists f6; iexact H6
    isplitl [H7]
    · iexact H7
    isplitl [HS0]
    · iexists _; isplitr; · ipureintro; exact harg10.read_unread _
      iexact HS0
    isplitl [HS1]
    · iexists _, _; isplitr; swap; · iexact HS1
      ipureintro; rfl
    iexists _, _; isplitr; swap; · iexact HS2
    ipureintro; rfl

end Cert.KernelIdeal.Proof

end
-- ==== Proof.Value.Weights.lean ====
/- The widened weights that one grid point's 36 block stores leave in a weight scratch. -/
module

public import proofs.«01_k».proof.Proof.Run.CaseB
public import Idealize.ShloMosaic.Lib.Pipeline.Value
public import Idealize.ShloMosaic.Lib.Pointwise
public import Idealize.ShloMosaic.Lib.WholeRead

@[expose] public section

set_option maxRecDepth 65536

noncomputable section

namespace Cert.KernelIdeal.Proof

open Cert.KernelIdeal Cert.KernelIdeal.Gen
open Idealize.ShloMosaic Idealize.ShloMosaic.TcCoe

variable {F : FTy → Type} [FloatOps F]

theorem one_pos_S1x1 : 0 < S1x1.numel := by rw [numel1_S1x1]; exact Nat.one_pos

/-- A 128 by 128 block of codes times its scale. -/
def wPay (a : Elt F .f32) (b : Vec F S128x128 .fp8e4m3) : FVec F S128x128 .bf16 :=
  shapeCast S128x128 (mulf (extf .bf16 b bitsLt_fp8e4m3_bf16) (broadcast S128x128 (Scalar.truncf .bf16 bitsLt_bf16_f32 a))) shapeCasts_S128x128_S128x128

/-- The column block `j` of the widened weight: code `(k, l)` times the scale of its 128 by 128 block. -/
def wideW (j : Fin 36) (s : Vec F S18x72 .f32) (w : Vec F S2304x256 .fp8e4m3) : Vec F S2304x256 .bf16 := fun y =>
  FloatOps.mulf (FloatOps.extf .bf16 bitsLt_fp8e4m3_bf16 (w y)) (Scalar.truncf .bf16 bitsLt_bf16_f32
    (s (ix2 ⟨(y 0).val / 128, by have := (y 0).isLt; change _ < 2304 at this; omega⟩ ⟨2 * j.val + (y 1).val / 128, by have := (y 1).isLt; change _ < 256 at this; omega⟩)))

/-- The column of the grid point. -/
abbrev colOf (i : grid0.Coords) : Fin 36 := i 1

variable (i : grid0.Coords) (aS : Memref sig .tc .smem S18x72 .f32) (hS : aS.IsWhole) (aW : Memref sig .tc .vmem S2304x256 .fp8e4m3) (hW : aW.IsWhole)
  (s : Vec F S18x72 .f32) (w : Vec F S2304x256 .fp8e4m3)

/-- The 36 stores, last first. -/
def wPieces : List (View.Piece (Elt F) S2304x256 .bf16) :=
  [
⟨Rect.unit (s := S2304x256) ![2176, 128] S128x128.size (by decide +kernel), wPay (View.readAt (Elt F) aS.view (Rect.unit (s := S18x72) (k0_off54 i 1#32) S1x1.size (k0_off54_inb i 1)).toLoadRect (hS.unread s) (Shape.Idx.first one_pos_S1x1)) (View.readAt (Elt F) aW.view (Rect.unit (s := S2304x256) ![2176, 128] S128x128.size (by decide +kernel)).toLoadRect (hW.unread w))⟩,
   ⟨Rect.unit (s := S2304x256) ![2048, 128] S128x128.size (by decide +kernel), wPay (View.readAt (Elt F) aS.view (Rect.unit (s := S18x72) (k0_off53 i 1#32) S1x1.size (k0_off53_inb i 1)).toLoadRect (hS.unread s) (Shape.Idx.first one_pos_S1x1)) (View.readAt (Elt F) aW.view (Rect.unit (s := S2304x256) ![2048, 128] S128x128.size (by decide +kernel)).toLoadRect (hW.unread w))⟩,
   ⟨Rect.unit (s := S2304x256) ![1920, 128] S128x128.size (by decide +kernel), wPay (View.readAt (Elt F) aS.view (Rect.unit (s := S18x72) (k0_off52 i 1#32) S1x1.size (k0_off52_inb i 1)).toLoadRect (hS.unread s) (Shape.Idx.first one_pos_S1x1)) (View.readAt (Elt F) aW.view (Rect.unit (s := S2304x256) ![1920, 128] S128x128.size (by decide +kernel)).toLoadRect (hW.unread w))⟩,
   ⟨Rect.unit (s := S2304x256) ![1792, 128] S128x128.size (by decide +kernel), wPay (View.readAt (Elt F) aS.view (Rect.unit (s := S18x72) (k0_off51 i 1#32) S1x1.size (k0_off51_inb i 1)).toLoadRect (hS.unread s) (Shape.Idx.first one_pos_S1x1)) (View.readAt (Elt F) aW.view (Rect.unit (s := S2304x256) ![1792, 128] S128x128.size (by decide +kernel)).toLoadRect (hW.unread w))⟩,
   ⟨Rect.unit (s := S2304x256) ![1664, 128] S128x128.size (by decide +kernel), wPay (View.readAt (Elt F) aS.view (Rect.unit (s := S18x72) (k0_off50 i 1#32) S1x1.size (k0_off50_inb i 1)).toLoadRect (hS.unread s) (Shape.Idx.first one_pos_S1x1)) (View.readAt (Elt F) aW.view (Rect.unit (s := S2304x256) ![1664, 128] S128x128.size (by decide +kernel)).toLoadRect (hW.unread w))⟩,
   ⟨Rect.unit (s := S2304x256) ![1536, 128] S128x128.size (by decide +kernel), wPay (View.readAt (Elt F) aS.view (Rect.unit (s := S18x72) (k0_off49 i 1#32) S1x1.size (k0_off49_inb i 1)).toLoadRect (hS.unread s) (Shape.Idx.first one_pos_S1x1)) (View.readAt (Elt F) aW.view (Rect.unit (s := S2304x256) ![1536, 128] S128x128.size (by decide +kernel)).toLoadRect (hW.unread w))⟩,
   ⟨Rect.unit (s := S2304x256) ![1408, 128] S128x128.size (by decide +kernel), wPay (View.readAt (Elt F) aS.view (Rect.unit (s := S18x72) (k0_off48 i 1#32) S1x1.size (k0_off48_inb i 1)).toLoadRect (hS.unread s) (Shape.Idx.first one_pos_S1x1)) (View.readAt (Elt F) aW.view (Rect.unit (s := S2304x256) ![1408, 128] S128x128.size (by decide +kernel)).toLoadRect (hW.unread w))⟩,
   ⟨Rect.unit (s := S2304x256) ![1280, 128] S128x128.size (by decide +kernel), wPay (View.readAt (Elt F) aS.view (Rect.unit (s := S18x72) (k0_off47 i 1#32) S1x1.size (k0_off47_inb i 1)).toLoadRect (hS.unread s) (Shape.Idx.first one_pos_S1x1)) (View.readAt (Elt F) aW.view (Rect.unit (s := S2304x256) ![1280, 128] S128x128.size (by decide +kernel)).toLoadRect (hW.unread w))⟩,
   ⟨Rect.unit (s := S2304x256) ![1152, 128] S128x128.size (by decide +kernel), wPay (View.readAt (Elt F) aS.view (Rect.unit (s := S18x72) (k0_off46 i 1#32) S1x1.size (k0_off46_inb i 1)).toLoadRect (hS.unread s) (Shape.Idx.first one_pos_S1x1)) (View.readAt (Elt F) aW.view (Rect.unit (s := S2304x256) ![1152, 128] S128x128.size (by decide +kernel)).toLoadRect (hW.unread w))⟩,
   ⟨Rect.unit (s := S2304x256) ![1024, 128] S128x128.size (by decide +kernel), wPay (View.readAt (Elt F) aS.view (Rect.unit (s := S18x72) (k0_off45 i 1#32) S1x1.size (k0_off45_inb i 1)).toLoadRect (hS.unread s) (Shape.Idx.first one_pos_S1x1)) (View.readAt (Elt F) aW.view (Rect.unit (s := S2304x256) ![1024, 128] S128x128.size (by decide +kernel)).toLoadRect (hW.unread w))⟩,
   ⟨Rect.unit (s := S2304x256) ![896, 128] S128x128.size (by decide +kernel), wPay (View.readAt (Elt F) aS.view (Rect.unit (s := S18x72) (k0_off44 i 1#32) S1x1.size (k0_off44_inb i 1)).toLoadRect (hS.unread s) (Shape.Idx.first one_pos_S1x1)) (View.readAt (Elt F) aW.view (Rect.unit (s := S2304x256) ![896, 128] S128x128.size (by decide +kernel)).toLoadRect (hW.unread w))⟩,
   ⟨Rect.unit (s := S2304x256) ![768, 128] S128x128.size (by decide +kernel), wPay (View.readAt (Elt F) aS.view (Rect.unit (s := S18x72) (k0_off43 i 1#32) S1x1.size (k0_off43_inb i 1)).toLoadRect (hS.unread s) (Shape.Idx.first one_pos_S1x1)) (View.readAt (Elt F) aW.view (Rect.unit (s := S2304x256) ![768, 128] S128x128.size (by decide +kernel)).toLoadRect (hW.unread w))⟩,
   ⟨Rect.unit (s := S2304x256) ![640, 128] S128x128.size (by decide +kernel), wPay (View.readAt (Elt F) aS.view (Rect.unit (s := S18x72) (k0_off42 i 1#32) S1x1.size (k0_off42_inb i 1)).toLoadRect (hS.unread s) (Shape.Idx.first one_pos_S1x1)) (View.readAt (Elt F) aW.view (Rect.unit (s := S2304x256) ![640, 128] S128x128.size (by decide +kernel)).toLoadRect (hW.unread w))⟩,
   ⟨Rect.unit (s := S2304x256) ![512, 128] S128x128.size (by decide +kernel), wPay (View.readAt (Elt F) aS.view (Rect.unit (s := S18x72) (k0_off41 i 1#32) S1x1.size (k0_off41_inb i 1)).toLoadRect (hS.unread s) (Shape.Idx.first one_pos_S1x1)) (View.readAt (Elt F) aW.view (Rect.unit (s := S2304x256) ![512, 128] S128x128.size (by decide +kernel)).toLoadRect (hW.unread w))⟩,
   ⟨Rect.unit (s := S2304x256) ![384, 128] S128x128.size (by decide +kernel), wPay (View.readAt (Elt F) aS.view (Rect.unit (s := S18x72) (k0_off40 i 1#32) S1x1.size (k0_off40_inb i 1)).toLoadRect (hS.unread s) (Shape.Idx.first one_pos_S1x1)) (View.readAt (Elt F) aW.view (Rect.unit (s := S2304x256) ![384, 128] S128x128.size (by decide +kernel)).toLoadRect (hW.unread w))⟩,
   ⟨Rect.unit (s := S2304x256) ![256, 128] S128x128.size (by decide +kernel), wPay (View.readAt (Elt F) aS.view (Rect.unit (s := S18x72) (k0_off39 i 1#32) S1x1.size (k0_off39_inb i 1)).toLoadRect (hS.unread s) (Shape.Idx.first one_pos_S1x1)) (View.readAt (Elt F) aW.view (Rect.unit (s := S2304x256) ![256, 128] S128x128.size (by decide +kernel)).toLoadRect (hW.unread w))⟩,
   ⟨Rect.unit (s := S2304x256) ![128, 128] S128x128.size (by decide +kernel), wPay (View.readAt (Elt F) aS.view (Rect.unit (s := S18x72) (k0_off38 i 1#32) S1x1.size (k0_off38_inb i 1)).toLoadRect (hS.unread s) (Shape.Idx.first one_pos_S1x1)) (View.readAt (Elt F) aW.view (Rect.unit (s := S2304x256) ![128, 128] S128x128.size (by decide +kernel)).toLoadRect (hW.unread w))⟩,
   ⟨Rect.unit (s := S2304x256) ![0, 128] S128x128.size (by decide +kernel), wPay (View.readAt (Elt F) aS.view (Rect.unit (s := S18x72) (k0_off37 i 1#32) S1x1.size (k0_off37_inb i 1)).toLoadRect (hS.unread s) (Shape.Idx.first one_pos_S1x1)) (View.readAt (Elt F) aW.view (Rect.unit (s := S2304x256) ![0, 128] S128x128.size (by decide +kernel)).toLoadRect (hW.unread w))⟩,
   ⟨Rect.unit (s := S2304x256) ![2176, 0] S128x128.size (by decide +kernel), wPay (View.readAt (Elt F) aS.view (Rect.unit (s := S18x72) (k0_off54 i 0#32) S1x1.size (k0_off54_inb i 0)).toLoadRect (hS.unread s) (Shape.Idx.first one_pos_S1x1)) (View.readAt (Elt F) aW.view (Rect.unit (s := S2304x256) ![2176, 0] S128x128.size (by decide +kernel)).toLoadRect (hW.unread w))⟩,
   ⟨Rect.unit (s := S2304x256) ![2048, 0] S128x128.size (by decide +kernel), wPay (View.readAt (Elt F) aS.view (Rect.unit (s := S18x72) (k0_off53 i 0#32) S1x1.size (k0_off53_inb i 0)).toLoadRect (hS.unread s) (Shape.Idx.first one_pos_S1x1)) (View.readAt (Elt F) aW.view (Rect.unit (s := S2304x256) ![2048, 0] S128x128.size (by decide +kernel)).toLoadRect (hW.unread w))⟩,
   ⟨Rect.unit (s := S2304x256) ![1920, 0] S128x128.size (by decide +kernel), wPay (View.readAt (Elt F) aS.view (Rect.unit (s := S18x72) (k0_off52 i 0#32) S1x1.size (k0_off52_inb i 0)).toLoadRect (hS.unread s) (Shape.Idx.first one_pos_S1x1)) (View.readAt (Elt F) aW.view (Rect.unit (s := S2304x256) ![1920, 0] S128x128.size (by decide +kernel)).toLoadRect (hW.unread w))⟩,
   ⟨Rect.unit (s := S2304x256) ![1792, 0] S128x128.size (by decide +kernel), wPay (View.readAt (Elt F) aS.view (Rect.unit (s := S18x72) (k0_off51 i 0#32) S1x1.size (k0_off51_inb i 0)).toLoadRect (hS.unread s) (Shape.Idx.first one_pos_S1x1)) (View.readAt (Elt F) aW.view (Rect.unit (s := S2304x256) ![1792, 0] S128x128.size (by decide +kernel)).toLoadRect (hW.unread w))⟩,
   ⟨Rect.unit (s := S2304x256) ![1664, 0] S128x128.size (by decide +kernel), wPay (View.readAt (Elt F) aS.view (Rect.unit (s := S18x72) (k0_off50 i 0#32) S1x1.size (k0_off50_inb i 0)).toLoadRect (hS.unread s) (Shape.Idx.first one_pos_S1x1)) (View.readAt (Elt F) aW.view (Rect.unit (s := S2304x256) ![1664, 0] S128x128.size (by decide +kernel)).toLoadRect (hW.unread w))⟩,
   ⟨Rect.unit (s := S2304x256) ![1536, 0] S128x128.size (by decide +kernel), wPay (View.readAt (Elt F) aS.view (Rect.unit (s := S18x72) (k0_off49 i 0#32) S1x1.size (k0_off49_inb i 0)).toLoadRect (hS.unread s) (Shape.Idx.first one_pos_S1x1)) (View.readAt (Elt F) aW.view (Rect.unit (s := S2304x256) ![1536, 0] S128x128.size (by decide +kernel)).toLoadRect (hW.unread w))⟩,
   ⟨Rect.unit (s := S2304x256) ![1408, 0] S128x128.size (by decide +kernel), wPay (View.readAt (Elt F) aS.view (Rect.unit (s := S18x72) (k0_off48 i 0#32) S1x1.size (k0_off48_inb i 0)).toLoadRect (hS.unread s) (Shape.Idx.first one_pos_S1x1)) (View.readAt (Elt F) aW.view (Rect.unit (s := S2304x256) ![1408, 0] S128x128.size (by decide +kernel)).toLoadRect (hW.unread w))⟩,
   ⟨Rect.unit (s := S2304x256) ![1280, 0] S128x128.size (by decide +kernel), wPay (View.readAt (Elt F) aS.view (Rect.unit (s := S18x72) (k0_off47 i 0#32) S1x1.size (k0_off47_inb i 0)).toLoadRect (hS.unread s) (Shape.Idx.first one_pos_S1x1)) (View.readAt (Elt F) aW.view (Rect.unit (s := S2304x256) ![1280, 0] S128x128.size (by decide +kernel)).toLoadRect (hW.unread w))⟩,
   ⟨Rect.unit (s := S2304x256) ![1152, 0] S128x128.size (by decide +kernel), wPay (View.readAt (Elt F) aS.view (Rect.unit (s := S18x72) (k0_off46 i 0#32) S1x1.size (k0_off46_inb i 0)).toLoadRect (hS.unread s) (Shape.Idx.first one_pos_S1x1)) (View.readAt (Elt F) aW.view (Rect.unit (s := S2304x256) ![1152, 0] S128x128.size (by decide +kernel)).toLoadRect (hW.unread w))⟩,
   ⟨Rect.unit (s := S2304x256) ![1024, 0] S128x128.size (by decide +kernel), wPay (View.readAt (Elt F) aS.view (Rect.unit (s := S18x72) (k0_off45 i 0#32) S1x1.size (k0_off45_inb i 0)).toLoadRect (hS.unread s) (Shape.Idx.first one_pos_S1x1)) (View.readAt (Elt F) aW.view (Rect.unit (s := S2304x256) ![1024, 0] S128x128.size (by decide +kernel)).toLoadRect (hW.unread w))⟩,
   ⟨Rect.unit (s := S2304x256) ![896, 0] S128x128.size (by decide +kernel), wPay (View.readAt (Elt F) aS.view (Rect.unit (s := S18x72) (k0_off44 i 0#32) S1x1.size (k0_off44_inb i 0)).toLoadRect (hS.unread s) (Shape.Idx.first one_pos_S1x1)) (View.readAt (Elt F) aW.view (Rect.unit (s := S2304x256) ![896, 0] S128x128.size (by decide +kernel)).toLoadRect (hW.unread w))⟩,
   ⟨Rect.unit (s := S2304x256) ![768, 0] S128x128.size (by decide +kernel), wPay (View.readAt (Elt F) aS.view (Rect.unit (s := S18x72) (k0_off43 i 0#32) S1x1.size (k0_off43_inb i 0)).toLoadRect (hS.unread s) (Shape.Idx.first one_pos_S1x1)) (View.readAt (Elt F) aW.view (Rect.unit (s := S2304x256) ![768, 0] S128x128.size (by decide +kernel)).toLoadRect (hW.unread w))⟩,
   ⟨Rect.unit (s := S2304x256) ![640, 0] S128x128.size (by decide +kernel), wPay (View.readAt (Elt F) aS.view (Rect.unit (s := S18x72) (k0_off42 i 0#32) S1x1.size (k0_off42_inb i 0)).toLoadRect (hS.unread s) (Shape.Idx.first one_pos_S1x1)) (View.readAt (Elt F) aW.view (Rect.unit (s := S2304x256) ![640, 0] S128x128.size (by decide +kernel)).toLoadRect (hW.unread w))⟩,
   ⟨Rect.unit (s := S2304x256) ![512, 0] S128x128.size (by decide +kernel), wPay (View.readAt (Elt F) aS.view (Rect.unit (s := S18x72) (k0_off41 i 0#32) S1x1.size (k0_off41_inb i 0)).toLoadRect (hS.unread s) (Shape.Idx.first one_pos_S1x1)) (View.readAt (Elt F) aW.view (Rect.unit (s := S2304x256) ![512, 0] S128x128.size (by decide +kernel)).toLoadRect (hW.unread w))⟩,
   ⟨Rect.unit (s := S2304x256) ![384, 0] S128x128.size (by decide +kernel), wPay (View.readAt (Elt F) aS.view (Rect.unit (s := S18x72) (k0_off40 i 0#32) S1x1.size (k0_off40_inb i 0)).toLoadRect (hS.unread s) (Shape.Idx.first one_pos_S1x1)) (View.readAt (Elt F) aW.view (Rect.unit (s := S2304x256) ![384, 0] S128x128.size (by decide +kernel)).toLoadRect (hW.unread w))⟩,
   ⟨Rect.unit (s := S2304x256) ![256, 0] S128x128.size (by decide +kernel), wPay (View.readAt (Elt F) aS.view (Rect.unit (s := S18x72) (k0_off39 i 0#32) S1x1.size (k0_off39_inb i 0)).toLoadRect (hS.unread s) (Shape.Idx.first one_pos_S1x1)) (View.readAt (Elt F) aW.view (Rect.unit (s := S2304x256) ![256, 0] S128x128.size (by decide +kernel)).toLoadRect (hW.unread w))⟩,
   ⟨Rect.unit (s := S2304x256) ![128, 0] S128x128.size (by decide +kernel), wPay (View.readAt (Elt F) aS.view (Rect.unit (s := S18x72) (k0_off38 i 0#32) S1x1.size (k0_off38_inb i 0)).toLoadRect (hS.unread s) (Shape.Idx.first one_pos_S1x1)) (View.readAt (Elt F) aW.view (Rect.unit (s := S2304x256) ![128, 0] S128x128.size (by decide +kernel)).toLoadRect (hW.unread w))⟩,
   ⟨Rect.unit (s := S2304x256) ![0, 0] S128x128.size (by decide +kernel), wPay (View.readAt (Elt F) aS.view (Rect.unit (s := S18x72) (k0_off37 i 0#32) S1x1.size (k0_off37_inb i 0)).toLoadRect (hS.unread s) (Shape.Idx.first one_pos_S1x1)) (View.readAt (Elt F) aW.view (Rect.unit (s := S2304x256) ![0, 0] S128x128.size (by decide +kernel)).toLoadRect (hW.unread w))⟩]

/-- One store's payload is its block of the widened weight. -/
theorem wPiece (k n : Nat) (hk : k < 18) (hn : n < 2) (r0 r1 : Nat) (h0 : r0 = k * 128) (h1 : r1 = n * 128) (off : Fin 2 → Nat)
    (hoff : off = ![k, 2 * (colOf i).val + n])
    (inbS : ∀ a, off a + S1x1.size a ≤ S18x72.size a) (inb : ∀ a, (![r0, r1] : Fin 2 → Nat) a + S128x128.size a ≤ S2304x256.size a) (x : S128x128.Idx) :
    wPay (View.readAt (Elt F) aS.view (Rect.unit (s := S18x72) off S1x1.size inbS).toLoadRect (hS.unread s) (Shape.Idx.first one_pos_S1x1))
      (View.readAt (Elt F) aW.view (Rect.unit (s := S2304x256) ![r0, r1] S128x128.size inb).toLoadRect (hW.unread w)) x
      = wideW (colOf i) s w ((Rect.unit (s := S2304x256) ![r0, r1] S128x128.size inb).emb x) := by
  subst h0 h1 hoff
  unfold wPay
  rw [Idealize.ShloMosaic.shapeCast_self]
  simp only [mulf, extf, broadcast, Memref.IsWhole.readAt_unread, wideW]
  have x0 := (x 0).isLt
  have x1 := (x 1).isLt
  change (x 0).val < 128 at x0
  change (x 1).val < 128 at x1
  refine congrArg₂ FloatOps.mulf rfl ?_
  refine congrArg (fun z => Scalar.truncf .bf16 bitsLt_bf16_f32 (s z)) ?_
  funext a
  match a with
  | ⟨0, _⟩ =>
    apply Fin.ext
    show k + 1 * 0 = (k * 128 + 1 * (x 0).val) / 128
    omega
  | ⟨1, _⟩ =>
    apply Fin.ext
    show (2 * (colOf i).val + n) + 1 * 0 = 2 * (colOf i).val + (n * 128 + 1 * (x 1).val) / 128
    omega

/-- Every store's payload is its block of the widened weight. -/
theorem wPieces_eq : ∀ p ∈ wPieces i aS hS aW hW s w, ∀ x : p.1.shape.Idx, p.2 x = wideW (colOf i) s w (p.1.emb x) := by
  have off : ∀ (f : Fin 2) , (Scalar.indexCast (Scalar.addi (Scalar.muli (BitVec.ofNat 32 (i 1).val) 2#32) (BitVec.ofNat 32 f.val))).toNat = 2 * (colOf i).val + f.val := by
    have h36 := (colOf i).isLt
    intro f
    have hf := f.isLt
    simp only [Scalar.indexCast, Scalar.addi, Scalar.muli, IntOp.addi, IntOp.muli]
    change (i 1).val < 36 at h36
    simp only [BitVec.toNat_add, BitVec.toNat_mul, BitVec.toNat_ofNat, colOf]
    omega
  unfold wPieces
  simp only [List.forall_mem_cons]
  refine ⟨fun x => wPiece i aS hS aW hW s w 17 1 (by decide) (by decide) 2176 128 rfl rfl _ (congrArg (fun z => (![17, z] : Fin 2 → Nat)) (off 1)) _ _ x,
    fun x => wPiece i aS hS aW hW s w 16 1 (by decide) (by decide) 2048 128 rfl rfl _ (congrArg (fun z => (![16, z] : Fin 2 → Nat)) (off 1)) _ _ x,
    fun x => wPiece i aS hS aW hW s w 15 1 (by decide) (by decide) 1920 128 rfl rfl _ (congrArg (fun z => (![15, z] : Fin 2 → Nat)) (off 1)) _ _ x,
    fun x => wPiece i aS hS aW hW s w 14 1 (by decide) (by decide) 1792 128 rfl rfl _ (congrArg (fun z => (![14, z] : Fin 2 → Nat)) (off 1)) _ _ x,
    fun x => wPiece i aS hS aW hW s w 13 1 (by decide) (by decide) 1664 128 rfl rfl _ (congrArg (fun z => (![13, z] : Fin 2 → Nat)) (off 1)) _ _ x,
    fun x => wPiece i aS hS aW hW s w 12 1 (by decide) (by decide) 1536 128 rfl rfl _ (congrArg (fun z => (![12, z] : Fin 2 → Nat)) (off 1)) _ _ x,
    fun x => wPiece i aS hS aW hW s w 11 1 (by decide) (by decide) 1408 128 rfl rfl _ (congrArg (fun z => (![11, z] : Fin 2 → Nat)) (off 1)) _ _ x,
    fun x => wPiece i aS hS aW hW s w 10 1 (by decide) (by decide) 1280 128 rfl rfl _ (congrArg (fun z => (![10, z] : Fin 2 → Nat)) (off 1)) _ _ x,
    fun x => wPiece i aS hS aW hW s w 9 1 (by decide) (by decide) 1152 128 rfl rfl _ (congrArg (fun z => (![9, z] : Fin 2 → Nat)) (off 1)) _ _ x,
    fun x => wPiece i aS hS aW hW s w 8 1 (by decide) (by decide) 1024 128 rfl rfl _ (congrArg (fun z => (![8, z] : Fin 2 → Nat)) (off 1)) _ _ x,
    fun x => wPiece i aS hS aW hW s w 7 1 (by decide) (by decide) 896 128 rfl rfl _ (congrArg (fun z => (![7, z] : Fin 2 → Nat)) (off 1)) _ _ x,
    fun x => wPiece i aS hS aW hW s w 6 1 (by decide) (by decide) 768 128 rfl rfl _ (congrArg (fun z => (![6, z] : Fin 2 → Nat)) (off 1)) _ _ x,
    fun x => wPiece i aS hS aW hW s w 5 1 (by decide) (by decide) 640 128 rfl rfl _ (congrArg (fun z => (![5, z] : Fin 2 → Nat)) (off 1)) _ _ x,
    fun x => wPiece i aS hS aW hW s w 4 1 (by decide) (by decide) 512 128 rfl rfl _ (congrArg (fun z => (![4, z] : Fin 2 → Nat)) (off 1)) _ _ x,
    fun x => wPiece i aS hS aW hW s w 3 1 (by decide) (by decide) 384 128 rfl rfl _ (congrArg (fun z => (![3, z] : Fin 2 → Nat)) (off 1)) _ _ x,
    fun x => wPiece i aS hS aW hW s w 2 1 (by decide) (by decide) 256 128 rfl rfl _ (congrArg (fun z => (![2, z] : Fin 2 → Nat)) (off 1)) _ _ x,
    fun x => wPiece i aS hS aW hW s w 1 1 (by decide) (by decide) 128 128 rfl rfl _ (congrArg (fun z => (![1, z] : Fin 2 → Nat)) (off 1)) _ _ x,
    fun x => wPiece i aS hS aW hW s w 0 1 (by decide) (by decide) 0 128 rfl rfl _ (congrArg (fun z => (![0, z] : Fin 2 → Nat)) (off 1)) _ _ x,
    fun x => wPiece i aS hS aW hW s w 17 0 (by decide) (by decide) 2176 0 rfl rfl _ (congrArg (fun z => (![17, z] : Fin 2 → Nat)) (off 0)) _ _ x,
    fun x => wPiece i aS hS aW hW s w 16 0 (by decide) (by decide) 2048 0 rfl rfl _ (congrArg (fun z => (![16, z] : Fin 2 → Nat)) (off 0)) _ _ x,
    fun x => wPiece i aS hS aW hW s w 15 0 (by decide) (by decide) 1920 0 rfl rfl _ (congrArg (fun z => (![15, z] : Fin 2 → Nat)) (off 0)) _ _ x,
    fun x => wPiece i aS hS aW hW s w 14 0 (by decide) (by decide) 1792 0 rfl rfl _ (congrArg (fun z => (![14, z] : Fin 2 → Nat)) (off 0)) _ _ x,
    fun x => wPiece i aS hS aW hW s w 13 0 (by decide) (by decide) 1664 0 rfl rfl _ (congrArg (fun z => (![13, z] : Fin 2 → Nat)) (off 0)) _ _ x,
    fun x => wPiece i aS hS aW hW s w 12 0 (by decide) (by decide) 1536 0 rfl rfl _ (congrArg (fun z => (![12, z] : Fin 2 → Nat)) (off 0)) _ _ x,
    fun x => wPiece i aS hS aW hW s w 11 0 (by decide) (by decide) 1408 0 rfl rfl _ (congrArg (fun z => (![11, z] : Fin 2 → Nat)) (off 0)) _ _ x,
    fun x => wPiece i aS hS aW hW s w 10 0 (by decide) (by decide) 1280 0 rfl rfl _ (congrArg (fun z => (![10, z] : Fin 2 → Nat)) (off 0)) _ _ x,
    fun x => wPiece i aS hS aW hW s w 9 0 (by decide) (by decide) 1152 0 rfl rfl _ (congrArg (fun z => (![9, z] : Fin 2 → Nat)) (off 0)) _ _ x,
    fun x => wPiece i aS hS aW hW s w 8 0 (by decide) (by decide) 1024 0 rfl rfl _ (congrArg (fun z => (![8, z] : Fin 2 → Nat)) (off 0)) _ _ x,
    fun x => wPiece i aS hS aW hW s w 7 0 (by decide) (by decide) 896 0 rfl rfl _ (congrArg (fun z => (![7, z] : Fin 2 → Nat)) (off 0)) _ _ x,
    fun x => wPiece i aS hS aW hW s w 6 0 (by decide) (by decide) 768 0 rfl rfl _ (congrArg (fun z => (![6, z] : Fin 2 → Nat)) (off 0)) _ _ x,
    fun x => wPiece i aS hS aW hW s w 5 0 (by decide) (by decide) 640 0 rfl rfl _ (congrArg (fun z => (![5, z] : Fin 2 → Nat)) (off 0)) _ _ x,
    fun x => wPiece i aS hS aW hW s w 4 0 (by decide) (by decide) 512 0 rfl rfl _ (congrArg (fun z => (![4, z] : Fin 2 → Nat)) (off 0)) _ _ x,
    fun x => wPiece i aS hS aW hW s w 3 0 (by decide) (by decide) 384 0 rfl rfl _ (congrArg (fun z => (![3, z] : Fin 2 → Nat)) (off 0)) _ _ x,
    fun x => wPiece i aS hS aW hW s w 2 0 (by decide) (by decide) 256 0 rfl rfl _ (congrArg (fun z => (![2, z] : Fin 2 → Nat)) (off 0)) _ _ x,
    fun x => wPiece i aS hS aW hW s w 1 0 (by decide) (by decide) 128 0 rfl rfl _ (congrArg (fun z => (![1, z] : Fin 2 → Nat)) (off 0)) _ _ x,
    fun x => wPiece i aS hS aW hW s w 0 0 (by decide) (by decide) 0 0 rfl rfl _ (congrArg (fun z => (![0, z] : Fin 2 → Nat)) (off 0)) _ _ x,
    fun _ h => absurd h List.not_mem_nil⟩

variable (c : Dev nD)

/-- What the 36 stores leave, read back, is the widened weight. -/
theorem readCov_wPieces (v : View sig .tc .vmem S2304x256 .bf16) (inb : ∀ a, (![0, 0] : Fin 2 → Nat) a + S2304x256.size a ≤ S2304x256.size a) :
    v.readCov (wPieces i aS hS aW hW s w) (Rect.unit (s := S2304x256) ![0, 0] S2304x256.size inb).toLoadRect = wideW (colOf i) s w := by
  have hc : ∀ y, ∃ p ∈ wPieces i aS hS aW hW s w, y ∈ p.1.set := View.cover_of_tiled _ S128x128.size (by rfl)
  rw [View.readCov_eq_canon_ld _ _ _ hc]
  refine (View.ld_unit_zero (S := S2304x256) (off := ![0, 0]) (by funext a; fin_cases a <;> rfl) inb _).trans ?_
  funext y
  exact View.canon_apply_of_pieces _ _ (wPieces_eq i aS hS aW hW s w) y (hc y)

/-- The gate weights' scratch, as the run names it. -/
theorem runA_gate (c : Dev nD) (v : Memref sig .tc .vmem S2304x256 .bf16) : runA.sl.v868 c i aS hS aW hW v s w = wideW (colOf i) s w :=
  readCov_wPieces i aS hS aW hW s w v.view _

/-- The up weights' scratch, as the run names it. -/
theorem runA_up (c : Dev nD) (v : Memref sig .tc .vmem S2304x256 .bf16) : runA.sl.v870 c i aS hS aW hW v s w = wideW (colOf i) s w :=
  readCov_wPieces i aS hS aW hW s w v.view _

/-- The gate weights' scratch, as the run names it. -/
theorem runB_gate (c : Dev nD) (v : Memref sig .tc .vmem S2304x256 .bf16) : runB.sl.v868 c i aS hS aW hW v s w = wideW (colOf i) s w :=
  readCov_wPieces i aS hS aW hW s w v.view _

/-- The up weights' scratch, as the run names it. -/
theorem runB_up (c : Dev nD) (v : Memref sig .tc .vmem S2304x256 .bf16) : runB.sl.v870 c i aS hS aW hW v s w = wideW (colOf i) s w :=
  readCov_wPieces i aS hS aW hW s w v.view _

end Cert.KernelIdeal.Proof

end
-- ==== Proof.Value.Rows.lean ====
/- The widened rows that the loop at a row block's first column block leaves in the rows' scratch. -/
module

public import proofs.«01_k».proof.Proof.Run.CaseA
public import Idealize.ShloMosaic.Lib.Pipeline.Value
public import Idealize.ShloMosaic.Lib.Pointwise
public import Idealize.ShloMosaic.Lib.WholeRead

@[expose] public section

set_option maxRecDepth 65536

noncomputable section

namespace Cert.KernelIdeal.Proof

open Cert.KernelIdeal Cert.KernelIdeal.Gen
open Idealize.ShloMosaic Idealize.ShloMosaic.TcCoe

variable {F : FTy → Type} [FloatOps F]

/-- A row block of `x` widened: code `(r, k)` times the scale of its row and its group of 128 columns. -/
def wideX (x : Vec F S2048x2304 .fp8e4m3) (s : Vec F S2048x18 .f32) : Vec F S2048x2304 .bf16 := fun y =>
  FloatOps.mulf (FloatOps.extf .bf16 bitsLt_fp8e4m3_bf16 (x y)) (FloatOps.truncf .bf16 bitsLt_bf16_f32
    (s (ix2 (n0 := 2048) (n1 := 18) (y 0) ⟨(y 1).val / 128, by have := (y 1).isLt; change _ < 2304 at this; omega⟩)))

variable (𝒱 : Variants) (bd : Option 𝒱.V) (c : Dev nD) (i : grid0.Coords) (arg2 : Memref sig .tc .smem S18x72 .f32) (harg2 : arg2.IsWhole) (arg3 : Memref sig .tc .smem S18x72 .f32) (harg3 : arg3.IsWhole) (arg4 : Memref sig .tc .vmem S2048x2304 .fp8e4m3) (harg4 : arg4.IsWhole) (arg5 : Memref sig .tc .vmem S2048x18 .f32) (harg5 : arg5.IsWhole) (arg6 : Memref sig .tc .vmem S2304x256 .fp8e4m3) (harg6 : arg6.IsWhole) (arg7 : Memref sig .tc .vmem S2304x256 .fp8e4m3) (harg7 : arg7.IsWhole) (arg8 : Memref sig .tc .vmem S2048x256 .fp8e4m3) (harg8 : arg8.IsWhole) (arg9 : Memref sig .tc .vmem S2048x72 .f32) (harg9 : arg9.IsWhole) (arg10 : Memref sig .tc .vmem S2048x2304 .bf16) (harg10 : arg10.IsWhole) (arg11 : Memref sig .tc .vmem S2304x256 .bf16) (harg11 : arg11.IsWhole) (arg12 : Memref sig .tc .vmem S2304x256 .bf16) (harg12 : arg12.IsWhole)
  (hc0 : cond0_0 i) (x : Vec F S2048x2304 .fp8e4m3) (s : Vec F S2048x18 .f32)

/-- One block store's payload is its block of the widened rows. -/
theorem xPiece (t : Nat) (k : Nat) (hk : k < 18) (r1 : Nat) (h1 : r1 = 128 * k) (offS offX : Fin 2 → Nat) (hS : offS = ![128 * t, k]) (hX : offX = ![128 * t, r1])
    (inbS : ∀ a, offS a + S128x1.size a ≤ S2048x18.size a) (inb : ∀ a, offX a + S128x128.size a ≤ S2048x2304.size a) (y : S128x128.Idx) :
    k0_pay23 (View.readAt (Elt F) arg5.view (Rect.unit (s := S2048x18) offS S128x1.size inbS).toLoadRect (harg5.unread s))
      (View.readAt (Elt F) arg4.view (Rect.unit (s := S2048x2304) offX S128x128.size inb).toLoadRect (harg4.unread x)) y
      = wideX x s ((Rect.unit (s := S2048x2304) offX S128x128.size inb).emb y) := by
  subst h1 hS hX
  have y0 := (y 0).isLt
  have y1 := (y 1).isLt
  change (y 0).val < 128 at y0
  change (y 1).val < 128 at y1
  unfold k0_pay23
  dsimp only
  rw [Idealize.ShloMosaic.shapeCast_self, Idealize.ShloMosaic.shapeCast_self, Idealize.ShloMosaic.shapeCast_self, Idealize.ShloMosaic.shapeCast_self]
  simp only [mulf, extf, truncf, Memref.IsWhole.readAt_unread, wideX]
  refine congrArg₂ FloatOps.mulf rfl ?_
  refine congrArg (fun z => FloatOps.truncf .bf16 bitsLt_bf16_f32 z) ?_
  rw [broadcastTo_apply _ _ _ (ix2 (n0 := 128) (n1 := 1) (y 0) 0) (by intro a; match a with | ⟨0, _⟩ => rfl | ⟨1, _⟩ => rfl)]
  rw [Memref.IsWhole.readAt_unread]
  refine congrArg s ?_
  funext a
  match a with
  | ⟨0, _⟩ =>
    apply Fin.ext
    show 128 * t + 1 * (y 0).val = 128 * t + 1 * (y 0).val
    rfl
  | ⟨1, _⟩ =>
    apply Fin.ext
    show k + 1 * 0 = (128 * k + 1 * (y 1).val) / 128
    omega

/-- Every store of one trip writes its block of the widened rows. -/
theorem trip_pieces (t : Fin k0_t1_loop.trips) :
    ∀ p ∈ tripL_k0_t1 (F := F) 𝒱 c bd i arg2 harg2 arg3 harg3 arg4 harg4 arg5 harg5 arg6 harg6 arg7 harg7 arg8 harg8 arg9 harg9 arg10 harg10 arg11 harg11 arg12 harg12 hc0 (harg4.unread x) (harg5.unread s) t, ∀ y : p.1.shape.Idx, p.2 y = wideX x s (p.1.emb y) := by
  unfold tripL_k0_t1 trip_k0_t1
  dsimp only
  simp only [List.forall_mem_cons]
  refine ⟨fun y => xPiece arg4 harg4 arg5 harg5 x s t.val 17 (by decide) 2176 rfl _ _ (k0_off35_eq t) (k0_off36_eq t) _ _ y,
    fun y => xPiece arg4 harg4 arg5 harg5 x s t.val 16 (by decide) 2048 rfl _ _ (k0_off33_eq t) (k0_off34_eq t) _ _ y,
    fun y => xPiece arg4 harg4 arg5 harg5 x s t.val 15 (by decide) 1920 rfl _ _ (k0_off31_eq t) (k0_off32_eq t) _ _ y,
    fun y => xPiece arg4 harg4 arg5 harg5 x s t.val 14 (by decide) 1792 rfl _ _ (k0_off29_eq t) (k0_off30_eq t) _ _ y,
    fun y => xPiece arg4 harg4 arg5 harg5 x s t.val 13 (by decide) 1664 rfl _ _ (k0_off27_eq t) (k0_off28_eq t) _ _ y,
    fun y => xPiece arg4 harg4 arg5 harg5 x s t.val 12 (by decide) 1536 rfl _ _ (k0_off25_eq t) (k0_off26_eq t) _ _ y,
    fun y => xPiece arg4 harg4 arg5 harg5 x s t.val 11 (by decide) 1408 rfl _ _ (k0_off23_eq t) (k0_off24_eq t) _ _ y,
    fun y => xPiece arg4 harg4 arg5 harg5 x s t.val 10 (by decide) 1280 rfl _ _ (k0_off21_eq t) (k0_off22_eq t) _ _ y,
    fun y => xPiece arg4 harg4 arg5 harg5 x s t.val 9 (by decide) 1152 rfl _ _ (k0_off19_eq t) (k0_off20_eq t) _ _ y,
    fun y => xPiece arg4 harg4 arg5 harg5 x s t.val 8 (by decide) 1024 rfl _ _ (k0_off17_eq t) (k0_off18_eq t) _ _ y,
    fun y => xPiece arg4 harg4 arg5 harg5 x s t.val 7 (by decide) 896 rfl _ _ (k0_off15_eq t) (k0_off16_eq t) _ _ y,
    fun y => xPiece arg4 harg4 arg5 harg5 x s t.val 6 (by decide) 768 rfl _ _ (k0_off13_eq t) (k0_off14_eq t) _ _ y,
    fun y => xPiece arg4 harg4 arg5 harg5 x s t.val 5 (by decide) 640 rfl _ _ (k0_off11_eq t) (k0_off12_eq t) _ _ y,
    fun y => xPiece arg4 harg4 arg5 harg5 x s t.val 4 (by decide) 512 rfl _ _ (k0_off9_eq t) (k0_off10_eq t) _ _ y,
    fun y => xPiece arg4 harg4 arg5 harg5 x s t.val 3 (by decide) 384 rfl _ _ (k0_off7_eq t) (k0_off8_eq t) _ _ y,
    fun y => xPiece arg4 harg4 arg5 harg5 x s t.val 2 (by decide) 256 rfl _ _ (k0_off5_eq t) (k0_off6_eq t) _ _ y,
    fun y => xPiece arg4 harg4 arg5 harg5 x s t.val 1 (by decide) 128 rfl _ _ (k0_off3_eq t) (k0_off4_eq t) _ _ y,
    fun y => xPiece arg4 harg4 arg5 harg5 x s t.val 0 (by decide) 0 rfl _ _ (k0_off1_eq t) (k0_off2_eq t) _ _ y,
    fun _ h => absurd h List.not_mem_nil⟩

/-- One trip's stores cover its 128 rows. -/
theorem trip_cover (t : Fin k0_t1_loop.trips) (y : S2048x2304.Idx) (h0 : 128 * t.val ≤ (y 0).val) (h1 : (y 0).val < 128 * t.val + 128) :
    ∃ p ∈ tripL_k0_t1 (F := F) 𝒱 c bd i arg2 harg2 arg3 harg3 arg4 harg4 arg5 harg5 arg6 harg6 arg7 harg7 arg8 harg8 arg9 harg9 arg10 harg10 arg11 harg11 arg12 harg12 hc0 (harg4.unread x) (harg5.unread s) t, y ∈ p.1.set := by
  have y1 : (y 1).val < 2304 := (y 1).isLt
  have key : ∀ (k : Nat) (off : Fin 2 → Nat) (ho : off = ![128 * t.val, 128 * k]) (inb : ∀ a, off a + S128x128.size a ≤ S2048x2304.size a)
      (hk : (y 1).val / 128 = k), y ∈ (Rect.unit (s := S2048x2304) off S128x128.size inb).set := by
    intro k off ho inb hk
    subst ho
    rw [LoadRect.mem_set]
    intro a
    match a with
    | ⟨0, _⟩ => exact ⟨(y 0).val - 128 * t.val, by show _ < 128; omega, by show (y 0).val = 128 * t.val + 1 * ((y 0).val - 128 * t.val); omega⟩
    | ⟨1, _⟩ => exact ⟨(y 1).val - 128 * k, by show _ < 128; omega, by show (y 1).val = 128 * k + 1 * ((y 1).val - 128 * k); omega⟩
  unfold tripL_k0_t1 trip_k0_t1
  dsimp only
  have hk : (y 1).val / 128 < 18 := by omega
  generalize hq : (y 1).val / 128 = q at hk
  simp only [List.exists_mem_cons_iff]
  interval_cases q
  · exact Or.inr (Or.inr (Or.inr (Or.inr (Or.inr (Or.inr (Or.inr (Or.inr (Or.inr (Or.inr (Or.inr (Or.inr (Or.inr (Or.inr (Or.inr (Or.inr (Or.inr (Or.inl (key 0 _ (k0_off2_eq t) _ hq))))))))))))))))))
  · exact Or.inr (Or.inr (Or.inr (Or.inr (Or.inr (Or.inr (Or.inr (Or.inr (Or.inr (Or.inr (Or.inr (Or.inr (Or.inr (Or.inr (Or.inr (Or.inr (Or.inl (key 1 _ (k0_off4_eq t) _ hq)))))))))))))))))
  · exact Or.inr (Or.inr (Or.inr (Or.inr (Or.inr (Or.inr (Or.inr (Or.inr (Or.inr (Or.inr (Or.inr (Or.inr (Or.inr (Or.inr (Or.inr (Or.inl (key 2 _ (k0_off6_eq t) _ hq))))))))))))))))
  · exact Or.inr (Or.inr (Or.inr (Or.inr (Or.inr (Or.inr (Or.inr (Or.inr (Or.inr (Or.inr (Or.inr (Or.inr (Or.inr (Or.inr (Or.inl (key 3 _ (k0_off8_eq t) _ hq)))))))))))))))
  · exact Or.inr (Or.inr (Or.inr (Or.inr (Or.inr (Or.inr (Or.inr (Or.inr (Or.inr (Or.inr (Or.inr (Or.inr (Or.inr (Or.inl (key 4 _ (k0_off10_eq t) _ hq))))))))))))))
  · exact Or.inr (Or.inr (Or.inr (Or.inr (Or.inr (Or.inr (Or.inr (Or.inr (Or.inr (Or.inr (Or.inr (Or.inr (Or.inl (key 5 _ (k0_off12_eq t) _ hq)))))))))))))
  · exact Or.inr (Or.inr (Or.inr (Or.inr (Or.inr (Or.inr (Or.inr (Or.inr (Or.inr (Or.inr (Or.inr (Or.inl (key 6 _ (k0_off14_eq t) _ hq))))))))))))
  · exact Or.inr (Or.inr (Or.inr (Or.inr (Or.inr (Or.inr (Or.inr (Or.inr (Or.inr (Or.inr (Or.inl (key 7 _ (k0_off16_eq t) _ hq)))))))))))
  · exact Or.inr (Or.inr (Or.inr (Or.inr (Or.inr (Or.inr (Or.inr (Or.inr (Or.inr (Or.inl (key 8 _ (k0_off18_eq t) _ hq))))))))))
  · exact Or.inr (Or.inr (Or.inr (Or.inr (Or.inr (Or.inr (Or.inr (Or.inr (Or.inl (key 9 _ (k0_off20_eq t) _ hq)))))))))
  · exact Or.inr (Or.inr (Or.inr (Or.inr (Or.inr (Or.inr (Or.inr (Or.inl (key 10 _ (k0_off22_eq t) _ hq))))))))
  · exact Or.inr (Or.inr (Or.inr (Or.inr (Or.inr (Or.inr (Or.inl (key 11 _ (k0_off24_eq t) _ hq)))))))
  · exact Or.inr (Or.inr (Or.inr (Or.inr (Or.inr (Or.inl (key 12 _ (k0_off26_eq t) _ hq))))))
  · exact Or.inr (Or.inr (Or.inr (Or.inr (Or.inl (key 13 _ (k0_off28_eq t) _ hq)))))
  · exact Or.inr (Or.inr (Or.inr (Or.inl (key 14 _ (k0_off30_eq t) _ hq))))
  · exact Or.inr (Or.inr (Or.inl (key 15 _ (k0_off32_eq t) _ hq)))
  · exact Or.inr (Or.inl (key 16 _ (k0_off34_eq t) _ hq))
  · exact Or.inl (key 17 _ (k0_off36_eq t) _ hq)

/-- The pieces of the trips before `n` all write blocks of the widened rows, -/
theorem trips_pieces : ∀ n : Nat, n ≤ k0_t1_loop.trips →
    ∀ p ∈ pb_k0_t1 (F := F) 𝒱 c bd i arg2 harg2 arg3 harg3 arg4 harg4 arg5 harg5 arg6 harg6 arg7 harg7 arg8 harg8 arg9 harg9 arg10 harg10 arg11 harg11 arg12 harg12 hc0 (harg4.unread x) (harg5.unread s) n, ∀ y : p.1.shape.Idx, p.2 y = wideX x s (p.1.emb y)
  | 0, _ => fun p h => absurd h List.not_mem_nil
  | n + 1, hn => by
    intro p hp
    rw [pb_k0_t1_succ 𝒱 c bd i arg2 harg2 arg3 harg3 arg4 harg4 arg5 harg5 arg6 harg6 arg7 harg7 arg8 harg8 arg9 harg9 arg10 harg10 arg11 harg11 arg12 harg12 hc0 _ _ ⟨n, hn⟩] at hp
    rcases List.mem_append.mp hp with hp | hp
    · exact trip_pieces 𝒱 bd c i arg2 harg2 arg3 harg3 arg4 harg4 arg5 harg5 arg6 harg6 arg7 harg7 arg8 harg8 arg9 harg9 arg10 harg10 arg11 harg11 arg12 harg12 hc0 x s ⟨n, hn⟩ p hp
    · exact trips_pieces n (Nat.le_of_succ_le hn) p hp

/-- and cover the rows below `128 n`. -/
theorem trips_cover : ∀ n : Nat, n ≤ k0_t1_loop.trips → ∀ y : S2048x2304.Idx, (y 0).val < 128 * n →
    ∃ p ∈ pb_k0_t1 (F := F) 𝒱 c bd i arg2 harg2 arg3 harg3 arg4 harg4 arg5 harg5 arg6 harg6 arg7 harg7 arg8 harg8 arg9 harg9 arg10 harg10 arg11 harg11 arg12 harg12 hc0 (harg4.unread x) (harg5.unread s) n, y ∈ p.1.set
  | 0, _ => fun y h => absurd h (by omega)
  | n + 1, hn => by
    intro y hy
    rw [pb_k0_t1_succ 𝒱 c bd i arg2 harg2 arg3 harg3 arg4 harg4 arg5 harg5 arg6 harg6 arg7 harg7 arg8 harg8 arg9 harg9 arg10 harg10 arg11 harg11 arg12 harg12 hc0 _ _ ⟨n, hn⟩]
    by_cases h : (y 0).val < 128 * n
    · obtain ⟨p, hp, hm⟩ := trips_cover n (Nat.le_of_succ_le hn) y h
      exact ⟨p, List.mem_append_right _ hp, hm⟩
    · obtain ⟨p, hp, hm⟩ := trip_cover 𝒱 bd c i arg2 harg2 arg3 harg3 arg4 harg4 arg5 harg5 arg6 harg6 arg7 harg7 arg8 harg8 arg9 harg9 arg10 harg10 arg11 harg11 arg12 harg12 hc0 x s ⟨n, hn⟩ y (by show 128 * n ≤ _; omega) (by show _ < 128 * n + 128; omega)
      exact ⟨p, List.mem_append_left _ hp, hm⟩

/-- After the loop the scratch reads as the widened rows, whatever it held before. -/
theorem read_loop (f : BufTy.Contents (Elt F) arg10.view.ty) :
    arg10.view.read (Elt F) (arg10.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 hc0 (harg4.unread x) (harg5.unread s) (Scf.trips (0#32) (Scalar.addi 0#32 16#32) 1#32)))
      = wideX x s := by
  funext y
  refine View.read_writes_apply_of_pieces _ _ _ _ (trips_pieces 𝒱 bd c i arg2 harg2 arg3 harg3 arg4 harg4 arg5 harg5 arg6 harg6 arg7 harg7 arg8 harg8 arg9 harg9 arg10 harg10 arg11 harg11 arg12 harg12 hc0 x s _ le_rfl) y
    (trips_cover 𝒱 bd c i arg2 harg2 arg3 harg3 arg4 harg4 arg5 harg5 arg6 harg6 arg7 harg7 arg8 harg8 arg9 harg9 arg10 harg10 arg11 harg11 arg12 harg12 hc0 x s _ le_rfl y ?_)
  have h : (y 0).val < 2048 := (y 0).isLt
  have e : k0_t1_loop.trips = 16 := by decide +kernel
  show (y 0).val < 128 * k0_t1_loop.trips
  omega

end Cert.KernelIdeal.Proof

end
-- ==== Proof.Value.Points.lean ====
/- What one grid point leaves, as functions of the point's blocks. -/
module

public import proofs.«01_k».proof.Proof.Run.Setup
public import proofs.«01_k».proof.Proof.Value.Blocks
public import proofs.«01_k».proof.Proof.Value.Weights
public import proofs.«01_k».proof.Proof.Value.Rows
public import Idealize.ShloMosaic.Lib.Pipeline.ValueKit.Point

@[expose] public section

set_option maxRecDepth 65536

noncomputable section

namespace Cert.KernelIdeal.Proof

open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F]

variable (m : (ℓ : Loc nD τ sig) → Buf (Elt F) ℓ)

/-- The scale that belongs in lane `y 1`: the group of that lane's parity. -/
def scaleElt (x : Vec F S2048x2304 .bf16) (wg wu : Vec F S2304x256 .bf16) (y : S2048x72.Idx) : F .f32 :=
  scaleOf (mean (groupOf ((y 1).val % 2) (chunkH (rowsOf (chunkOf (y 0)) x) wg wu)))
    (ix2 (inChunk (y 0)) ⟨(y 1).val, by have := (y 1).isLt; change _ < 72 at this; omega⟩)

/-- One lane mask of the kernel: lane `l` is `2 j + n`. -/
theorem lane_eq : ∀ (j : Fin 36) (n : Fin 2) (l : Fin 72),
    IntOp.cmpi .eq (BitVec.ofNat 32 l.val) (Scalar.addi (Scalar.muli (BitVec.ofNat 32 j.val) 2#32) (BitVec.ofNat 32 n.val)) = BitVec.ofBool (decide (l.val = 2 * j.val + n.val)) := by
  decide +kernel

/-- A chunk's scales are its rows of the block, so its own row and lane are those of the block. -/
theorem rowsOf_apply {e : EltTy} (sc : Vec F S2048x72 e) (y : S2048x72.Idx) :
    rowsOf (chunkOf (y 0)) sc (ix2 (inChunk (y 0)) (y 1)) = sc y := by
  unfold rowsOf
  refine congrArg sc (funext fun a => Fin.ext ?_)
  match a with
  | ⟨0, _⟩ =>
    show (y 0).val / 256 * 256 + (y 0).val % 256 = (y 0).val
    omega
  | ⟨1, _⟩ => rfl

/-- The scales' block that a point leaves, by the lane. -/
theorem scalesBlk_apply (j : Nat) (hj : j < 36) (x : Vec F S2048x2304 .bf16) (wg wu : Vec F S2304x256 .bf16) (sc : Vec F S2048x72 .f32) (y : S2048x72.Idx) :
    scalesBlk (BitVec.ofNat 32 j) x wg wu sc y = if (y 1).val / 2 = j then scaleElt x wg wu y else sc y := by
  have h1 : (y 1).val < 72 := (y 1).isLt
  have h0 : (y 0).val < 2048 := (y 0).isLt
  unfold scalesBlk putScales putScale
  pointwise
  have e1 := lane_eq ⟨j, hj⟩ 1 ⟨(y 1).val, h1⟩
  have e0 := lane_eq ⟨j, hj⟩ 0 ⟨(y 1).val, h1⟩
  rw [show Scalar.addi (Scalar.muli (BitVec.ofNat 32 j) 2#32) 1#32 = Scalar.addi (Scalar.muli (BitVec.ofNat 32 j) 2#32) (BitVec.ofNat 32 (1 : Fin 2).val) from rfl, e1,
    show Scalar.addi (Scalar.muli (BitVec.ofNat 32 j) 2#32) 0#32 = Scalar.addi (Scalar.muli (BitVec.ofNat 32 j) 2#32) (BitVec.ofNat 32 (0 : Fin 2).val) from rfl, e0]
  unfold scaleElt
  have hm : (y 1).val % 2 = 0 ∨ (y 1).val % 2 = 1 := by omega
  by_cases hd : (y 1).val / 2 = j
  · rw [if_pos hd]
    rcases hm with hm | hm
    · rw [hm, decide_eq_false (by simp; omega), decide_eq_true (by simp; omega)]; rfl
    · rw [hm, decide_eq_true (by simp; omega)]; rfl
  · rw [if_neg hd, decide_eq_false (by simp; omega), decide_eq_false (by simp; omega)]
    exact rowsOf_apply sc y

/-- The block index of every window. -/
theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val / 36, 0] := (by decide +kernel : ∀ t : Fin grid0.N, _)
theorem index3 : ∀ t : Fin cfg0.N, win0_3.index t = ![t.val / 36, 0] := (by decide +kernel : ∀ t : Fin grid0.N, _)
theorem index4 : ∀ t : Fin cfg0.N, win0_4.index t = ![0, t.val % 36] := (by decide +kernel : ∀ t : Fin grid0.N, _)
theorem index5 : ∀ t : Fin cfg0.N, win0_5.index t = ![0, t.val % 36] := (by decide +kernel : ∀ t : Fin grid0.N, _)
theorem index6 : ∀ t : Fin cfg0.N, win0_6.index t = ![t.val / 36, t.val % 36] := (by decide +kernel : ∀ t : Fin grid0.N, _)
theorem index7 : ∀ t : Fin cfg0.N, win0_7.index t = ![t.val / 36, 0] := (by decide +kernel : ∀ t : Fin grid0.N, _)

/-- The column of a point. -/
theorem col_eq : ∀ t : Fin cfg0.N, ((grid0.coords t) 1).val = t.val % 36 := (by decide +kernel : ∀ t : Fin grid0.N, _)

/-- The gate's weight scales are a window's whole array. -/
theorem iblk0_eq (c : Dev nD) (t : Fin cfg0.N) (y : S18x72.Idx) : iblk m c 0 t y = V m c main_arg3 y := by
  blk_ext [iblk, index0 t]

/-- The up half's weight scales are a window's whole array. -/
theorem iblk1_eq (c : Dev nD) (t : Fin cfg0.N) (y : S18x72.Idx) : iblk m c 1 t y = V m c main_arg5 y := by
  blk_ext [iblk, index1 t]

/-- The rows' block at a point. -/
theorem iblk2_apply (c : Dev nD) (t : Fin cfg0.N) (y : S2048x2304.Idx) :
    iblk m c 2 t y = V m c main_v0 (ix2 ⟨2048 * (t.val / 36) + (y 0).val, by have := (y 0).isLt; change _ < 2048 at this; have := t.isLt; change _ < 576 at this; omega⟩ (y 1)) := by
  blk_ext [iblk, index2 t]

/-- The rows' scales at a point. -/
theorem iblk3_apply (c : Dev nD) (t : Fin cfg0.N) (y : S2048x18.Idx) :
    iblk m c 3 t y = V m c main_v1 (ix2 ⟨2048 * (t.val / 36) + (y 0).val, by have := (y 0).isLt; change _ < 2048 at this; have := t.isLt; change _ < 576 at this; omega⟩ (y 1)) := by
  blk_ext [iblk, index3 t]

/-- The gate's weights at a point. -/
theorem iblk4_apply (c : Dev nD) (t : Fin cfg0.N) (y : S2304x256.Idx) :
    iblk m c 4 t y = V m c main_arg2 (ix2 (y 0) ⟨256 * (t.val % 36) + (y 1).val, by have := (y 1).isLt; change _ < 256 at this; omega⟩) := by
  blk_ext [iblk, index4 t]

/-- The up half's weights at a point. -/
theorem iblk5_apply (c : Dev nD) (t : Fin cfg0.N) (y : S2304x256.Idx) :
    iblk m c 5 t y = V m c main_arg4 (ix2 (y 0) ⟨256 * (t.val % 36) + (y 1).val, by have := (y 1).isLt; change _ < 256 at this; omega⟩) := by
  blk_ext [iblk, index5 t]

/-- The widened rows at a point. -/
def xwAt (c : Dev nD) (t : Fin cfg0.N) : Vec F S2048x2304 .bf16 := wideX (iblk m c 2 t) (iblk m c 3 t)
/-- The widened weights of the gate at a point. -/
def wgAt (c : Dev nD) (t : Fin cfg0.N) : Vec F S2304x256 .bf16 := wideW (colOf (grid0.coords t)) (iblk m c 0 t) (iblk m c 4 t)
/-- The widened weights of the up half at a point. -/
def wuAt (c : Dev nD) (t : Fin cfg0.N) : Vec F S2304x256 .bf16 := wideW (colOf (grid0.coords t)) (iblk m c 1 t) (iblk m c 5 t)

/-- The widened rows are one block along a row of the grid. -/
theorem xwAt_row (c : Dev nD) (t t' : Fin cfg0.N) (h : t.val / 36 = t'.val / 36) : xwAt m c t = xwAt m c t' := by
  have e2 : (iblk m c 2 t : S2048x2304.Idx → _) = iblk m c 2 t' := by
    funext y; rw [iblk2_apply, iblk2_apply]; congr 2; simp only [h]
  have e3 : (iblk m c 3 t : S2048x18.Idx → _) = iblk m c 3 t' := by
    funext y; rw [iblk3_apply, iblk3_apply]; congr 2; simp only [h]
  unfold xwAt
  exact congrArg₂ wideX e2 e3

/-- The codes a point leaves. -/
def codesAt (c : Dev nD) (t : Fin cfg0.N) : Vec F S2048x256 .fp8e4m3 := codesBlk (xwAt m c t) (wgAt m c t) (wuAt m c t)
/-- The scale a point leaves in a lane of its two. -/
def scaleAt (c : Dev nD) (t : Fin cfg0.N) (y : S2048x72.Idx) : F .f32 := scaleElt (xwAt m c t) (wgAt m c t) (wuAt m c t) y

end Cert.KernelIdeal.Proof

end
-- ==== Proof.Value.Body.lean ====
/- The kernel body's triple at one grid point, with the blocks it leaves named. -/
module

public import proofs.«01_k».proof.Proof.Value.Blocks
public import proofs.«01_k».proof.Proof.Value.Weights
public import proofs.«01_k».proof.Proof.Value.Rows

@[expose] public section

set_option maxRecDepth 65536

noncomputable section

namespace Cert.KernelIdeal.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg2 : Memref sig .tc .smem S18x72 .f32) (harg2 : arg2.IsWhole) (arg3 : Memref sig .tc .smem S18x72 .f32) (harg3 : arg3.IsWhole) (arg4 : Memref sig .tc .vmem S2048x2304 .fp8e4m3) (harg4 : arg4.IsWhole) (arg5 : Memref sig .tc .vmem S2048x18 .f32) (harg5 : arg5.IsWhole) (arg6 : Memref sig .tc .vmem S2304x256 .fp8e4m3) (harg6 : arg6.IsWhole) (arg7 : Memref sig .tc .vmem S2304x256 .fp8e4m3) (harg7 : arg7.IsWhole) (arg8 : Memref sig .tc .vmem S2048x256 .fp8e4m3) (harg8 : arg8.IsWhole) (arg9 : Memref sig .tc .vmem S2048x72 .f32) (harg9 : arg9.IsWhole) (arg10 : Memref sig .tc .vmem S2048x2304 .bf16) (harg10 : arg10.IsWhole) (arg11 : Memref sig .tc .vmem S2304x256 .bf16) (harg11 : arg11.IsWhole) (arg12 : Memref sig .tc .vmem S2304x256 .bf16) (harg12 : arg12.IsWhole)
  (x0 : Vec F S18x72 .f32) (x1 : Vec F S18x72 .f32) (x2 : Vec F S2048x2304 .fp8e4m3) (x3 : Vec F S2048x18 .f32) (x4 : Vec F S2304x256 .fp8e4m3) (x5 : Vec F S2304x256 .fp8e4m3) (x7 : Vec F S2048x72 .f32)

/-- The codes' stores of case A, as the run finds them. -/
theorem runA_codes (hc0 : cond0_0 i) (fs0 : BufTy.Contents (Elt F) arg10.view.ty) :
    (runA c i arg2 harg2 arg3 harg3 arg4 harg4 arg5 harg5 arg6 harg6 arg7 harg7 arg8 harg8 arg9 harg9 arg10 harg10 arg11 harg11 arg12 harg12 hc0 x0 x1 x2 x3 x4 x5 x7 fs0).2.1 = codesPieces arg10 (arg10.view.writes (Elt F) fs0 (runA c i arg2 harg2 arg3 harg3 arg4 harg4 arg5 harg5 arg6 harg6 arg7 harg7 arg8 harg8 arg9 harg9 arg10 harg10 arg11 harg11 arg12 harg12 hc0 x0 x1 x2 x3 x4 x5 x7 fs0).1) (runA.sl.v868 c i arg2 harg2 arg6 harg6 arg11 x0 x4) (runA.sl.v870 c i arg3 harg3 arg7 harg7 arg12 x1 x5) := by
  rfl

/-- The scales' stores of case A, as the run finds them. -/
theorem runA_scales (hc0 : cond0_0 i) (fs0 : BufTy.Contents (Elt F) arg10.view.ty) :
    (runA c i arg2 harg2 arg3 harg3 arg4 harg4 arg5 harg5 arg6 harg6 arg7 harg7 arg8 harg8 arg9 harg9 arg10 harg10 arg11 harg11 arg12 harg12 hc0 x0 x1 x2 x3 x4 x5 x7 fs0).2.2.1 = scalesPieces arg9 (harg9.unread x7) arg10 (arg10.view.writes (Elt F) fs0 (runA c i arg2 harg2 arg3 harg3 arg4 harg4 arg5 harg5 arg6 harg6 arg7 harg7 arg8 harg8 arg9 harg9 arg10 harg10 arg11 harg11 arg12 harg12 hc0 x0 x1 x2 x3 x4 x5 x7 fs0).1) (runA.sl.v868 c i arg2 harg2 arg6 harg6 arg11 x0 x4) (runA.sl.v870 c i arg3 harg3 arg7 harg7 arg12 x1 x5) (BitVec.ofNat 32 (i 1)) := by
  rfl

/-- The widened rows' stores of case A are the loop's. -/
theorem runA_rows (hc0 : cond0_0 i) (fs0 : BufTy.Contents (Elt F) arg10.view.ty) :
    arg10.view.read (Elt F) (arg10.view.writes (Elt F) fs0 (runA c i arg2 harg2 arg3 harg3 arg4 harg4 arg5 harg5 arg6 harg6 arg7 harg7 arg8 harg8 arg9 harg9 arg10 harg10 arg11 harg11 arg12 harg12 hc0 x0 x1 x2 x3 x4 x5 x7 fs0).1) = wideX x2 x3 :=
  read_loop Variants.none none c i arg2 harg2 arg3 harg3 arg4 harg4 arg5 harg5 arg6 harg6 arg7 harg7 arg8 harg8 arg9 harg9 arg10 harg10 arg11 harg11 arg12 harg12 hc0 x2 x3 fs0

set_option maxHeartbeats 1600000 in
/-- The body's triple in case A: the codes' block and the scales' block it leaves, and the widened rows in the scratch. -/
theorem bodyA (hc0 : cond0_0 i) (fs0 : BufTy.Contents (Elt F) arg10.view.ty) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ (arg10.view.loc (c : Thread nD τ) ↦[arg10.view.set]{fullShare} fs0) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (codesBlk (wideX x2 x3) (wideW (colOf i) x0 x4) (wideW (colOf i) x1 x5)) ∗ owns (c : Thread nD τ) arg9 fullShare (scalesBlk (BitVec.ofNat 32 (i 1)) (wideX x2 x3) (wideW (colOf i) x0 x4) (wideW (colOf i) x1 x5) x7) ∗ owns (c : Thread nD τ) arg10 fullShare (wideX x2 x3) ∗ (∃ d, owns (c : Thread nD τ) arg11 fullShare d) ∗ (∃ d, owns (c : Thread nD τ) arg12 fullShare d)) -∗ K ⟨⟩))
      ⊢ wp frame (wpE (defs₀ (F := F)) Variants.none c none) E (cc0_swiglu_fp8 i arg2 harg2 arg3 harg3 arg4 harg4 arg5 harg5 arg6 harg6 arg7 harg7 arg8 harg8 arg9 harg9 arg10 harg10 arg11 harg11 arg12 harg12) K := by
  have h6 : ∀ f, arg8.view.read (Elt F) (arg8.view.writes (Elt F) f (runA c i arg2 harg2 arg3 harg3 arg4 harg4 arg5 harg5 arg6 harg6 arg7 harg7 arg8 harg8 arg9 harg9 arg10 harg10 arg11 harg11 arg12 harg12 hc0 x0 x1 x2 x3 x4 x5 x7 fs0).2.1) = codesBlk (wideX x2 x3) (wideW (colOf i) x0 x4) (wideW (colOf i) x1 x5) := fun f => by
    rw [runA_codes, runA_gate, runA_up]
    exact read_codes arg10 _ _ _ (wideX x2 x3) (runA_rows c i arg2 harg2 arg3 harg3 arg4 harg4 arg5 harg5 arg6 harg6 arg7 harg7 arg8 harg8 arg9 harg9 arg10 harg10 arg11 harg11 arg12 harg12 x0 x1 x2 x3 x4 x5 x7 hc0 fs0) arg8 f
  have h7 : arg9.view.read (Elt F) (arg9.view.writes (Elt F) (harg9.unread x7) (runA c i arg2 harg2 arg3 harg3 arg4 harg4 arg5 harg5 arg6 harg6 arg7 harg7 arg8 harg8 arg9 harg9 arg10 harg10 arg11 harg11 arg12 harg12 hc0 x0 x1 x2 x3 x4 x5 x7 fs0).2.2.1) = scalesBlk (BitVec.ofNat 32 (i 1)) (wideX x2 x3) (wideW (colOf i) x0 x4) (wideW (colOf i) x1 x5) x7 := by
    rw [runA_scales, runA_gate, runA_up]
    exact read_scales arg9 _ arg10 _ _ _ _ (wideX x2 x3) (runA_rows c i arg2 harg2 arg3 harg3 arg4 harg4 arg5 harg5 arg6 harg6 arg7 harg7 arg8 harg8 arg9 harg9 arg10 harg10 arg11 harg11 arg12 harg12 x0 x1 x2 x3 x4 x5 x7 hc0 fs0) x7 (harg9.read_unread x7) _
  iintro ⟨H0, H1, H2, H3, H4, H5, H6, H7, HS0, HS1, HS2, Hk⟩
  iapply ((runA c i arg2 harg2 arg3 harg3 arg4 harg4 arg5 harg5 arg6 harg6 arg7 harg7 arg8 harg8 arg9 harg9 arg10 harg10 arg11 harg11 arg12 harg12 hc0 x0 x1 x2 x3 x4 x5 x7 fs0).2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, H4, H5, ⟨%f6, H6⟩, H7, HS0, HS1, HS2⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; · ipureintro; exact h6 f6
    iexact H6
  isplitl [H7]
  · unfold owns; iexists _; isplitr; · ipureintro; exact h7
    iexact H7
  isplitl [HS0]
  · unfold owns; iexists _; isplitr; · ipureintro; exact (runA_rows c i arg2 harg2 arg3 harg3 arg4 harg4 arg5 harg5 arg6 harg6 arg7 harg7 arg8 harg8 arg9 harg9 arg10 harg10 arg11 harg11 arg12 harg12 x0 x1 x2 x3 x4 x5 x7 hc0 fs0)
    iexact HS0
  isplitl [HS1]; · iexact HS1
  iexact HS2

/-- The codes' stores of case B, as the run finds them. -/
theorem runB_codes (hc0 : ¬cond0_0 i) (xs : Vec F S2048x2304 .bf16) :
    (runB c i arg2 harg2 arg3 harg3 arg4 harg4 arg5 harg5 arg6 harg6 arg7 harg7 arg8 harg8 arg9 harg9 arg10 harg10 arg11 harg11 arg12 harg12 hc0 x0 x1 x2 x3 x4 x5 x7 xs).1 = codesPieces arg10 (harg10.unread xs) (runB.sl.v868 c i arg2 harg2 arg6 harg6 arg11 x0 x4) (runB.sl.v870 c i arg3 harg3 arg7 harg7 arg12 x1 x5) := by
  rfl

/-- The scales' stores of case B, as the run finds them. -/
theorem runB_scales (hc0 : ¬cond0_0 i) (xs : Vec F S2048x2304 .bf16) :
    (runB c i arg2 harg2 arg3 harg3 arg4 harg4 arg5 harg5 arg6 harg6 arg7 harg7 arg8 harg8 arg9 harg9 arg10 harg10 arg11 harg11 arg12 harg12 hc0 x0 x1 x2 x3 x4 x5 x7 xs).2.1 = scalesPieces arg9 (harg9.unread x7) arg10 (harg10.unread xs) (runB.sl.v868 c i arg2 harg2 arg6 harg6 arg11 x0 x4) (runB.sl.v870 c i arg3 harg3 arg7 harg7 arg12 x1 x5) (BitVec.ofNat 32 (i 1)) := by
  rfl

set_option maxHeartbeats 1600000 in
/-- The body's triple in case B: the codes' block and the scales' block it leaves. -/
theorem bodyB (hc0 : ¬cond0_0 i) (xs : Vec F S2048x2304 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ owns (c : Thread nD τ) arg10 fullShare xs ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (codesBlk xs (wideW (colOf i) x0 x4) (wideW (colOf i) x1 x5)) ∗ owns (c : Thread nD τ) arg9 fullShare (scalesBlk (BitVec.ofNat 32 (i 1)) xs (wideW (colOf i) x0 x4) (wideW (colOf i) x1 x5) x7) ∗ owns (c : Thread nD τ) arg10 fullShare xs ∗ (∃ d, owns (c : Thread nD τ) arg11 fullShare d) ∗ (∃ d, owns (c : Thread nD τ) arg12 fullShare d)) -∗ K ⟨⟩))
      ⊢ wp frame (wpE (defs₀ (F := F)) Variants.none c none) E (cc0_swiglu_fp8 i arg2 harg2 arg3 harg3 arg4 harg4 arg5 harg5 arg6 harg6 arg7 harg7 arg8 harg8 arg9 harg9 arg10 harg10 arg11 harg11 arg12 harg12) K := by
  have h6 : ∀ f, arg8.view.read (Elt F) (arg8.view.writes (Elt F) f (runB c i arg2 harg2 arg3 harg3 arg4 harg4 arg5 harg5 arg6 harg6 arg7 harg7 arg8 harg8 arg9 harg9 arg10 harg10 arg11 harg11 arg12 harg12 hc0 x0 x1 x2 x3 x4 x5 x7 xs).1) = codesBlk xs (wideW (colOf i) x0 x4) (wideW (colOf i) x1 x5) := fun f => by
    rw [runB_codes, runB_gate, runB_up]
    exact read_codes arg10 _ _ _ xs (harg10.read_unread xs) arg8 f
  have h7 : arg9.view.read (Elt F) (arg9.view.writes (Elt F) (harg9.unread x7) (runB c i arg2 harg2 arg3 harg3 arg4 harg4 arg5 harg5 arg6 harg6 arg7 harg7 arg8 harg8 arg9 harg9 arg10 harg10 arg11 harg11 arg12 harg12 hc0 x0 x1 x2 x3 x4 x5 x7 xs).2.1) = scalesBlk (BitVec.ofNat 32 (i 1)) xs (wideW (colOf i) x0 x4) (wideW (colOf i) x1 x5) x7 := by
    rw [runB_scales, runB_gate, runB_up]
    exact read_scales arg9 _ arg10 _ _ _ _ xs (harg10.read_unread xs) x7 (harg9.read_unread x7) _
  iintro ⟨H0, H1, H2, H3, H4, H5, H6, H7, HS0, HS1, HS2, Hk⟩
  iapply ((runB c i arg2 harg2 arg3 harg3 arg4 harg4 arg5 harg5 arg6 harg6 arg7 harg7 arg8 harg8 arg9 harg9 arg10 harg10 arg11 harg11 arg12 harg12 hc0 x0 x1 x2 x3 x4 x5 x7 xs).2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, H4, H5, ⟨%f6, H6⟩, H7, HS0, HS1, HS2⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; · ipureintro; exact h6 f6
    iexact H6
  isplitl [H7]
  · unfold owns; iexists _; isplitr; · ipureintro; exact h7
    iexact H7
  isplitl [HS0]
  · iexact HS0

  isplitl [HS1]; · iexact HS1
  iexact HS2

end Cert.KernelIdeal.Proof

end
-- ==== Proof.Value.Data.lean ====
/- The proof data of the kernel's pipeline: what each point leaves in the two results' blocks. -/
module

public import proofs.«01_k».proof.Proof.Value.Points
public import proofs.«01_k».proof.Proof.Value.Body
public import Idealize.ShloMosaic.Lib.Pipeline.DatRel

@[expose] public section

-- membership in a rectangle of production extents (`View.cover_of_tiled`): the elaborator's structural look
-- recurses once per coordinate of the long axes
set_option maxRecDepth 16384

noncomputable section

namespace Cert.KernelIdeal.Proof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The two windows held to a predicate: the results. -/
def held : Fin 8 → Bool := fun w => w.val == 6 || w.val == 7

/-- The point of the same row of the grid whose column is that of lane `y 1`. -/
def laneOf (t : Fin cfg0.N) (y : S2048x72.Idx) : Fin cfg0.N :=
  ⟨36 * (t.val / 36) + (y 1).val / 2, by
    have h1 : (y 1).val < 72 := (y 1).isLt
    have h0 : t.val < 576 := lt_of_lt_of_eq t.isLt N_0
    exact lt_of_lt_of_eq (by omega : _ < 576) N_0.symm⟩

/-- What a point leaves in the codes' block: its codes. -/
def Leaves6 (c : Dev nD) (t : Fin cfg0.N) (X : Vec F S2048x256 .fp8e4m3) : Prop := X = codesAt m c t

/-- What a point leaves in the scales' block: the scales of its own column and of every column before it. -/
def Leaves7 (c : Dev nD) (t : Fin cfg0.N) (X : Vec F S2048x72 .f32) : Prop :=
  ∀ y : S2048x72.Idx, (y 1).val / 2 ≤ t.val % 36 → X y = scaleAt m c (laneOf t y) y

/-- What each window is held to. -/
def rel (c : Dev nD) (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun X => Leaves6 m c t X
  | ⟨7, _⟩ => fun X => Leaves7 m c t X

/-- The invariant before the `k`-th point: inside a row of the grid the first scratch buffer holds the widened rows. -/
def inv (c : Dev nD) (k : Nat) : sProp 𝕄 :=
  iprop(iprop((∃ d, ⌜∀ t : Fin cfg0.N, k % 36 ≠ 0 → t.val + 1 = k → d = xwAt m c t⌝ ∗ owns (c : Thread nD τ) scM0_0 fullShare d)
    ∗ (∃ d, owns (c : Thread nD τ) scM0_1 fullShare d) ∗ (∃ d, owns (c : Thread nD τ) scM0_2 fullShare d)) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ k := inv m c k.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The data with the results held to their predicates. -/
abbrev rdats (c : Dev nD) : Pipeline.RDat τ (Elt F) Unit ℕ (UR sig nD τ) ℕ cfg0 c := (dats m 0 c).toRRel held (rel m c)

/-! ## The body obligation, at a generic point -/

/-- Inside a row of the grid the body finds the scales of every column before. -/
theorem finds7 (c : Dev nD) (t : Fin cfg0.N) (h : t.val % 36 ≠ 0) (Y : Vec F S2048x72 .f32) (hY : (rdats m c).Finds 7 t Y) :
    ∀ y : S2048x72.Idx, (y 1).val / 2 < t.val % 36 → Y y = scaleAt m c (laneOf t y) y := by
  have ht : t.val ≠ 0 := fun h0 => h (by rw [h0])
  have hf : (cfg0.win 7).fetch t = false := rfl
  rcases ((rdats m c).finds_of_pos hf ht Y).mp hY with hfl | hl
  · exact absurd ((flush0_7 _).mp hfl) (by show ¬ (t.val - 1) % 36 = 35; omega)
  · have h7 : Leaves7 m c _ Y := (dats m 0 c).toRRel_leaves (fgt := held) (Rl := rel m c) (w := 7) rfl hl
    intro y hy
    refine (h7 y (show (y 1).val / 2 ≤ (t.val - 1) % 36 by omega)).trans ?_
    congr 1
    refine Fin.ext ?_
    show 36 * ((t.val - 1) / 36) + _ = 36 * (t.val / 36) + _
    omega

/-- What the body leaves in the scales' block. -/
theorem leaves7 (c : Dev nD) (t : Fin cfg0.N) (Y : Vec F S2048x72 .f32)
    (hY : ∀ y : S2048x72.Idx, (y 1).val / 2 < t.val % 36 → Y y = scaleAt m c (laneOf t y) y) :
    Leaves7 m c t (scalesBlk (BitVec.ofNat 32 ((grid0.coords t) 1).val) (xwAt m c t) (wgAt m c t) (wuAt m c t) Y) := by
  intro y hy
  rw [col_eq t, scalesBlk_apply _ (Nat.mod_lt _ (by decide))]
  split
  · rename_i he
    have e : laneOf t y = t := Fin.ext (by show 36 * (t.val / 36) + _ = t.val; rw [he]; omega)
    rw [e]; rfl
  · exact hY y (by omega)

/-- A scratch buffer owned at some contents, as the points-to of its buffer. -/
theorem raw0 (c : Dev nD) (e : Vec F S2048x2304 .bf16) :
    (owns (c : Thread nD τ) scM0_0 fullShare e : sProp 𝕄) ⊢ iprop(∃ f, scM0_0.view.loc (c : Thread nD τ) ↦[scM0_0.view.set]{fullShare} f) := by
  unfold owns
  iintro ⟨%f, %hf, H⟩
  iexists f
  iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜(rdats m c).Finds 6 t Y⌝ ∗ owns (c : Thread nD τ) (ms0_6 t) fullShare Y)
    ∗ (∃ Y, ⌜(rdats m c).Finds 7 t Y⌝ ∗ owns (c : Thread nD τ) (ms0_7 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, ⌜Leaves6 m c t X⌝ ∗ owns (c : Thread nD τ) (ms0_6 t) fullShare X)
    ∗ (∃ X, ⌜Leaves7 m c t X⌝ ∗ owns (c : Thread nD τ) (ms0_7 t) fullShare X))

set_option maxHeartbeats 1600000 in
/-- The body at any point: at the first point of a row it widens the row's block, at the others it finds it widened. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = inv m c (t.val + 1) from rfl, show (dats m 0 c).Φ t.castSucc = inv m c t.val from rfl,
    show (dats m 0 c).owesAt () t.succ = (dats m 0 c).owesAt () t.castSucc from rfl,
    after0_0, after0_1, after0_2, after0_3, after0_4, after0_5]
  unfold inv
  have hN : t.val < 576 := lt_of_lt_of_eq t.isLt (show cfg0.N = 576 from N_0)
  by_cases h0 : t.val % 36 = 0
  · iintro ⟨⟨⟨⟨%e0, %he0, HS0⟩, HS1, HS2⟩, Hg⟩, Ho, ⟨%d0, H0⟩, ⟨%d1, H1⟩, ⟨%d2, H2⟩, ⟨%d3, H3⟩, ⟨%d4, H4⟩, ⟨%d5, H5⟩, ⟨%d6, %h6, H6⟩, ⟨%d7, %h7, H7⟩⟩
    ihave HS0 := raw0 c e0 $$ HS0
    icases HS0 with ⟨%f0, HS0⟩
    iapply (bodyA c (grid0.coords t) _ _ _ _ _ _ _ _ _ _ _ _ _ _ _ _ _ _ _ _ _ _ (iblk m c 0 t) (iblk m c 1 t) (iblk m c 2 t) (iblk m c 3 t) (iblk m c 4 t) (iblk m c 5 t) d7 ((hcond0_0 t).mpr h0) f0 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexists _
          isplitr
          · ipureintro; exact fun t' _ ht => by obtain rfl : t' = t := Fin.ext (by omega); rfl
          iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _
      isplitr
      · ipureintro; exact (rfl : codesBlk _ _ _ = codesAt m c t)
      iexact H6
    iexists _
    isplitr
    · ipureintro; exact leaves7 m c t d7 fun y hy => absurd hy (by omega)
    iexact H7
  · iintro ⟨⟨⟨⟨%e0, %he0, HS0⟩, HS1, HS2⟩, Hg⟩, Ho, ⟨%d0, H0⟩, ⟨%d1, H1⟩, ⟨%d2, H2⟩, ⟨%d3, H3⟩, ⟨%d4, H4⟩, ⟨%d5, H5⟩, ⟨%d6, %h6, H6⟩, ⟨%d7, %h7, H7⟩⟩
    have hx : e0 = xwAt m c t :=
      (he0 ⟨t.val - 1, lt_of_le_of_lt (Nat.sub_le _ _) t.isLt⟩ h0 (by show t.val - 1 + 1 = t.val; omega)).trans
        (xwAt_row m c _ _ (by show (t.val - 1) / 36 = t.val / 36; omega))
    subst hx
    iapply (bodyB c (grid0.coords t) _ _ _ _ _ _ _ _ _ _ _ _ _ _ _ _ _ _ _ _ _ _ (iblk m c 0 t) (iblk m c 1 t) (iblk m c 2 t) (iblk m c 3 t) (iblk m c 4 t) (iblk m c 5 t) d7 (fun h => h0 ((hcond0_0 t).mp h)) (xwAt m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexists _
          isplitr
          · ipureintro; exact fun t' _ ht => by obtain rfl : t' = t := Fin.ext (by omega); rfl
          iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _
      isplitr
      · ipureintro; exact (rfl : codesBlk _ _ _ = codesAt m c t)
      iexact H6
    iexists _
    isplitr
    · ipureintro; exact leaves7 m c t d7 (finds7 m c t h0 d7 h7)
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : Pipeline.BodyObligationRel (dats (F := F) m 0 c) (defs₀ (F := F)) Variants.none () Set.univ held (rel m c) := fun t => by
  rw [bigSep_W0, bigSep_W0, defs₀_row]
  exact triple_restated (sound_body m c t) rfl .rfl fun _ => .rfl

end Cert.KernelIdeal.Proof

end
-- ==== Proof.Value.Launch.lean ====
/- The run of the kernel: the argument arrays unchanged, every counter at zero, and the two results. -/
module

public import proofs.«01_k».proof.Proof.Value.Data
public import Idealize.ShloMosaic.Lib.Pipeline.ArrRel
public import Idealize.ShloMosaic.Lib.Claim

@[expose] public section

-- membership in a rectangle of production extents (`View.cover_of_tiled`): the elaborator's structural look
-- recurses once per coordinate of the long axes
set_option maxRecDepth 16384

noncomputable section

namespace Cert.KernelIdeal.Proof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The results -/

/-- The point that computes column `q` of row block `p`. -/
def pointOf (p q : Nat) (hp : p < 16) (hq : q < 36) : Fin cfg0.N :=
  ⟨36 * p + q, lt_of_lt_of_eq (by omega : 36 * p + q < 576) N_0.symm⟩

/-- The codes of the whole result. -/
def codesArr (c : Dev nD) : Vec F S32768x9216 .fp8e4m3 := fun z =>
  codesAt m c
    (pointOf ((z 0).val / 2048) ((z 1).val / 256)
      (by have h : (z 0).val < 32768 := (z 0).isLt; omega) (by have h : (z 1).val < 9216 := (z 1).isLt; omega))
    (ix2 ⟨(z 0).val % 2048, Nat.mod_lt _ (by decide)⟩ ⟨(z 1).val % 256, Nat.mod_lt _ (by decide)⟩)

/-- The scales of the whole result. -/
def scalesArr (c : Dev nD) : Vec F S32768x72 .f32 := fun z =>
  scaleAt m c
    (pointOf ((z 0).val / 2048) ((z 1).val / 2)
      (by have h : (z 0).val < 32768 := (z 0).isLt; omega) (by have h : (z 1).val < 72 := (z 1).isLt; omega))
    (ix2 ⟨(z 0).val % 2048, Nat.mod_lt _ (by decide)⟩ (z 1))

/-- The codes' array after the run. -/
theorem arr6 (c : Dev nD) (after : (w' : Fin cfg0.W) → Fin cfg0.N → (cfg0.win w').block.Idx → Elt F (cfg0.win w').elt)
    (h : ∀ u, Leaves6 m c u (after 6 u)) : ((rdats m c).withAfter after).arrAt 6 cfg0.N = codesArr m c := by
  refine ((rdats m c).withAfter after).arrAt_eq_of_covers 6 (codesArr m c) (by decide +kernel) fun t hf y => ?_
  blk_simp
  refine (congrFun (h t) y).trans ?_
  have hN : t.val < 576 := lt_of_lt_of_eq t.isLt N_0
  have y0 : (y 0).val < 2048 := (y 0).isLt
  have y1 : (y 1).val < 256 := (y 1).isLt
  have e0 : (((win0_6.blk t).view.emb y) 0).val = 2048 * (t.val / 36) + (y 0).val := by blk_simp [index6 t]; omega
  have e1 : (((win0_6.blk t).view.emb y) 1).val = 256 * (t.val % 36) + (y 1).val := by blk_simp [index6 t]; omega
  refine congrArg₂ (codesAt m c) (Fin.ext ?_) (funext fun a => Fin.ext ?_)
  · show t.val = 36 * ((((win0_6.blk t).view.emb y) 0).val / 2048) + (((win0_6.blk t).view.emb y) 1).val / 256
    rw [e0, e1]; omega
  · match a with
    | ⟨0, _⟩ =>
      show (y 0).val = (((win0_6.blk t).view.emb y) 0).val % 2048
      rw [e0]; omega
    | ⟨1, _⟩ =>
      show (y 1).val = (((win0_6.blk t).view.emb y) 1).val % 256
      rw [e1]; omega

/-- The scales' array after the run. -/
theorem arr7 (c : Dev nD) (after : (w' : Fin cfg0.W) → Fin cfg0.N → (cfg0.win w').block.Idx → Elt F (cfg0.win w').elt)
    (h : ∀ u, (cfg0.win 7).flush u = true → Leaves7 m c u (after 7 u)) : ((rdats m c).withAfter after).arrAt 7 cfg0.N = scalesArr m c := by
  refine ((rdats m c).withAfter after).arrAt_eq_of_covers 7 (scalesArr m c) (by decide +kernel) fun t hf y => ?_
  have hj : t.val % 36 = 35 := (flush0_7 t).mp hf
  blk_simp
  have y0 : (y 0).val < 2048 := (y 0).isLt
  have y1 : (y 1).val < 72 := (y 1).isLt
  refine (h t hf y (by omega)).trans ?_
  have hN : t.val < 576 := lt_of_lt_of_eq t.isLt N_0
  have e0 : (((win0_7.blk t).view.emb y) 0).val = 2048 * (t.val / 36) + (y 0).val := by blk_simp [index7 t]; omega
  have e1 : (((win0_7.blk t).view.emb y) 1).val = (y 1).val := by blk_simp [index7 t]
  refine congrArg₂ (scaleAt m c) (Fin.ext ?_) (funext fun a => Fin.ext ?_)
  · show 36 * (t.val / 36) + (y 1).val / 2 = 36 * ((((win0_7.blk t).view.emb y) 0).val / 2048) + (((win0_7.blk t).view.emb y) 1).val / 2
    rw [e0, e1]; omega
  · match a with
    | ⟨0, _⟩ =>
      show (y 0).val = (((win0_7.blk t).view.emb y) 0).val % 2048
      rw [e0]; omega
    | ⟨1, _⟩ => exact e1.symm

/-! ## The run -/

-- the implicit arguments are found by unifying the conclusion with this one, which takes unfolding plain definitions in a
-- metavariable's type
set_option backward.isDefEq.respectTransparency.types false in
/-- The launch: every array at what the proof data allow, and every semaphore counter at zero. -/
theorem run_main : θ_run defs (onTc (τ := τ) (main (F := F))) (s₀ m ρ) (fun r => Pipeline.RDat.FramePost (cfgs 0) (rdats m) (V m) r ∧ r.2.sem = fun _ => 0) :=
  Pipeline.RDat.θ_run_frame_track (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m)
    (hin := fun c => by
      show Pipeline.ΦA spec0 c ⊢ inv m c 0
      rw [PhiA0_eq]
      unfold inv
      iintro ⟨⟨⟨%d0, H0⟩, H1, H2⟩, Hg⟩
      isplitl [H0 H1 H2]
      · isplitl [H0]
        · iexists d0
          isplitr
          · ipureintro; exact fun t h => absurd rfl h
          iexact H0
        isplitl [H1]
        · iexact H1
        iexact H2
      iexact Hg)
    (hout := fun c => by
      show inv m c _ ⊢ Pipeline.ΦA spec0 c
      rw [PhiA0_eq]
      unfold inv
      iintro ⟨⟨⟨%d0, %h0, H0⟩, H1, H2⟩, Hg⟩
      isplitl [H0 H1 H2]
      · isplitl [H0]
        · iexists d0
          iexact H0
        isplitl [H1]
        · iexact H1
        iexact H2
      iexact Hg)

/-- What the kernel's run ends with on one core: the two results, and the arguments as they were. -/
def Ends (r : PUnit × MemSt nD τ sig (Elt F)) (c : Dev nD) : Prop :=
  (r.2.mem ((c.tc : Thread nD τ).loc main_v2_0) = codesArr m c
      ∧ r.2.mem ((c.tc : Thread nD τ).loc main_v2_1) = scalesArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)

/-- The results and the arguments after the run. -/
theorem run_values : θ_run defs (onTc (τ := τ) (main (F := F))) ⟨m, fun _ => 0, ρ⟩ (fun r => (∀ c : Dev nD, Ends m r c) ∧ r.2.sem = fun _ => 0) :=
  (θ_run defs _ _).mono (fun r h => ⟨fun c => by
      obtain ⟨after, hL, hA⟩ := h.1.exists_exact c
      refine ⟨⟨(hA 6).trans (arr6 m c after fun u => ?_), (hA 7).trans (arr7 m c after fun u hu => ?_)⟩,
        ((h.1 c).2 main_arg0 (Pipeline.mem_restRefs_of main_arg0 (by decide) (by decide))).trans (V_main_arg0 m c),
        ((h.1 c).2 main_arg1 (Pipeline.mem_restRefs_of main_arg1 (by decide) (by decide))).trans (V_main_arg1 m c),
        (Pipeline.RDat.FramePost.arr_in h.1 c 4 rfl).trans ((A_eq m c 4).trans (V_main_arg2 m c)),
        (Pipeline.RDat.FramePost.arr_in h.1 c 0 rfl).trans ((A_eq m c 0).trans (V_main_arg3 m c)),
        (Pipeline.RDat.FramePost.arr_in h.1 c 5 rfl).trans ((A_eq m c 5).trans (V_main_arg4 m c)),
        (Pipeline.RDat.FramePost.arr_in h.1 c 1 rfl).trans ((A_eq m c 1).trans (V_main_arg5 m c))⟩
      · exact (dats m 0 c).toRRel_leaves (fgt := held) (Rl := rel m c) (w := 6) rfl (hL 6 u (flush0_6 u))
      · exact (dats m 0 c).toRRel_leaves (fgt := held) (Rl := rel m c) (w := 7) rfl (hL 7 u hu), h.2⟩) (run_main m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h.1 c).2, h.2⟩) (run_values m ρ)

end Cert.KernelIdeal.Proof

end
-- ==== Proof.Pow2.Words.lean ====
/- The kernel's search for an exponent field, on 32-bit words. -/
module

public import proofs.«01_k».proof.Proof.Value.Chunk

@[expose] public section

set_option maxRecDepth 16384

noncomputable section

namespace Cert.KernelIdeal.Proof

open Cert.KernelIdeal Cert.KernelIdeal.Gen
open Idealize.ShloMosaic Idealize.ShloMosaic.TcCoe

/-- An exponent field put at its place in a float's word. -/
def shl23 (n : BitVec 32) : BitVec 32 := IntOp.shli .vector n 23#32

/-- One step of the search, `p n` telling whether the float of field `n` is still at most the number. -/
def stepP (p : BitVec 32 → Bool) (b f : BitVec 32) : BitVec 32 := if p (f + b) then f + b else f

/-- The search. -/
def searchP (p : BitVec 32 → Bool) : BitVec 32 :=
  stepP p 1#32 (stepP p 2#32 (stepP p 4#32 (stepP p 8#32 (stepP p 16#32 (stepP p 32#32 (stepP p 64#32 (stepP p 128#32 0#32)))))))

/-- The answers when the number's own field is `K`. -/
def below (K : Fin 256) (n : BitVec 32) : Bool := decide (n.toNat ≤ K.val)

/-- What the search holds after its first steps. -/
def at1 (K : Fin 256) : BitVec 32 := stepP (below K) 128#32 0#32
def at2 (K : Fin 256) : BitVec 32 := stepP (below K) 64#32 (at1 K)
def at3 (K : Fin 256) : BitVec 32 := stepP (below K) 32#32 (at2 K)
def at4 (K : Fin 256) : BitVec 32 := stepP (below K) 16#32 (at3 K)
def at5 (K : Fin 256) : BitVec 32 := stepP (below K) 8#32 (at4 K)
def at6 (K : Fin 256) : BitVec 32 := stepP (below K) 4#32 (at5 K)
def at7 (K : Fin 256) : BitVec 32 := stepP (below K) 2#32 (at6 K)

/-- The words the search asks about. -/
def Asked (n : BitVec 32) : Prop := 1 ≤ n.toNat ∧ n.toNat ≤ 255

instance (n : BitVec 32) : Decidable (Asked n) := inferInstanceAs (Decidable (_ ∧ _))

theorem asked : ∀ K : Fin 256, Asked (0#32 + 128#32) ∧ Asked (at1 K + 64#32) ∧ Asked (at2 K + 32#32) ∧ Asked (at3 K + 16#32)
    ∧ Asked (at4 K + 8#32) ∧ Asked (at5 K + 4#32) ∧ Asked (at6 K + 2#32) ∧ Asked (at7 K + 1#32) := by
  decide +kernel

/-- The search with those answers finds `K`. -/
theorem found : ∀ K : Fin 256, stepP (below K) 1#32 (at7 K) = BitVec.ofNat 32 K.val := by
  decide +kernel

/-- The search finds the field `K` of a number whenever the fields up to `K` are the ones whose float is at most the number. -/
theorem searchP_eq (p : BitVec 32 → Bool) (K : Fin 256) (h : ∀ n, Asked n → p n = decide (n.toNat ≤ K.val)) :
    searchP p = BitVec.ofNat 32 K.val := by
  have hs : ∀ b f, Asked (f + b) → stepP p b f = stepP (below K) b f := fun b f hf => by
    unfold stepP; rw [h _ hf]; rfl
  obtain ⟨a1, a2, a3, a4, a5, a6, a7, a8⟩ := asked K
  unfold searchP
  rw [hs _ _ a1]; change stepP p _ (stepP p _ (stepP p _ (stepP p _ (stepP p _ (stepP p _ (stepP p _ (at1 K))))))) = _
  rw [hs _ _ a2]; change stepP p _ (stepP p _ (stepP p _ (stepP p _ (stepP p _ (stepP p _ (at2 K)))))) = _
  rw [hs _ _ a3]; change stepP p _ (stepP p _ (stepP p _ (stepP p _ (stepP p _ (at3 K))))) = _
  rw [hs _ _ a4]; change stepP p _ (stepP p _ (stepP p _ (stepP p _ (at4 K)))) = _
  rw [hs _ _ a5]; change stepP p _ (stepP p _ (stepP p _ (at5 K))) = _
  rw [hs _ _ a6]; change stepP p _ (stepP p _ (at6 K)) = _
  rw [hs _ _ a7]; change stepP p _ (at7 K) = _
  rw [hs _ _ a8]
  exact found K

/-- The word of the scale's exponent, from the field. -/
def expoW (f : BitVec 32) : BitVec 32 :=
  Scalar.select (IntOp.ori (IntOp.cmpi .eq f 0#32) (IntOp.cmpi .eq f 255#32)) 0#32 (IntOp.subi f 126#32)

/-- The field of the scale. -/
def scaleK (K : Nat) : Nat := if K = 0 ∨ K = 255 then 127 else K + 1

/-- The field of the inverse. -/
def invK (K : Nat) : Nat := if K = 0 ∨ K = 255 then 127 else 253 - K

/-- The word of the scale. -/
theorem scaleW : ∀ K : Fin 256, IntOp.shli .vector (IntOp.addi (expoW (BitVec.ofNat 32 K.val)) 127#32) 23#32 = shl23 (BitVec.ofNat 32 (scaleK K.val)) := by
  decide +kernel

/-- The word of the inverse. -/
theorem invW : ∀ K : Fin 256, IntOp.shli .vector (IntOp.maxsi (IntOp.subi 127#32 (expoW (BitVec.ofNat 32 K.val))) 0#32) 23#32 = shl23 (BitVec.ofNat 32 (invK K.val)) := by
  decide +kernel

end Cert.KernelIdeal.Proof

end
-- ==== Proof.Pow2.Scale.lean ====
/- The kernel's power-of-two scale and inverse are the reference's, on every extended real. -/
module

public import proofs.«01_k».proof.Proof.Pow2.Words
public import Idealize.ShloMosaic.PureOps.Ideal

@[expose] public section

set_option maxRecDepth 16384

noncomputable section

namespace Cert.KernelIdeal.Proof

open Cert.KernelIdeal Cert.KernelIdeal.Gen
open Idealize.ShloMosaic Idealize.ShloMosaic.TcCoe

/-- The float of exponent field `n` and no fraction. -/
def pow2 (n : Nat) : EReal := Ideal.ofBits .f32 (shl23 (BitVec.ofNat 32 n))

/-- The three parts of that float's word. -/
theorem parts : ∀ n : Fin 256, ((shl23 (BitVec.ofNat 32 n.val)).extractLsb' (8 + 23) 1 == 1#1) = false
    ∧ ((shl23 (BitVec.ofNat 32 n.val)).extractLsb' 23 8).toNat = n.val ∧ ((shl23 (BitVec.ofNat 32 n.val)).extractLsb' 0 23).toNat = 0 := by
  decide +kernel

theorem pow2_zero : pow2 0 = 0 := by
  obtain ⟨h1, h2, h3⟩ := parts 0
  show Ideal.ieee 8 23 (shl23 (BitVec.ofNat 32 (0 : Fin 256).val)) = 0
  unfold Ideal.ieee
  simp only [h1, h2, h3]
  norm_num

theorem pow2_top : pow2 255 = ⊤ := by
  obtain ⟨h1, h2, h3⟩ := parts 255
  show Ideal.ieee 8 23 (shl23 (BitVec.ofNat 32 (255 : Fin 256).val)) = ⊤
  unfold Ideal.ieee
  simp only [h1, h2, h3]
  norm_num

theorem pow2_coe (n : Nat) (h : 1 ≤ n) (h' : n ≤ 254) : pow2 n = (((2 : ℝ) ^ ((n : ℤ) - 127) : ℝ) : EReal) := by
  obtain ⟨h1, h2, h3⟩ := parts ⟨n, by omega⟩
  show Ideal.ieee 8 23 (shl23 (BitVec.ofNat 32 (⟨n, by omega⟩ : Fin 256).val)) = _
  unfold Ideal.ieee
  simp only [h1, h2, h3]
  rw [if_neg (by norm_num; omega), if_neg (by omega)]
  have key : ∀ z : ℝ, (1 : ℝ) * ((2 ^ 23 + 0 : ℕ) : ℝ) * z = z * 2 ^ (23 : ℤ) := fun z => by norm_num; ring
  have e : ((n : ℤ) - (2 ^ (8 - 1) - 1) - (23 : ℕ)) + 23 = (n : ℤ) - 127 := by norm_num
  rw [if_neg Bool.false_ne_true, key, ← zpow_add₀ (by norm_num : (2 : ℝ) ≠ 0), e]

/-! ## The kernel's side -/

/-- The kernel's scale of one number. -/
def kScale (y : EReal) : EReal := Ideal.ofBits .f32 (IntOp.shli .vector (IntOp.addi (expoW (searchP fun n => decide (Ideal.ofBits .f32 (shl23 n) ≤ y))) 127#32) 23#32)

/-- The kernel's inverse of one number's scale. -/
def kInv (y : EReal) : EReal := Ideal.ofBits .f32 (IntOp.shli .vector (IntOp.maxsi (IntOp.subi 127#32 (expoW (searchP fun n => decide (Ideal.ofBits .f32 (shl23 n) ≤ y)))) 0#32) 23#32)

theorem step_apply (y : FVec Ideal S256x128 .f32) (b : BitVec 32) (f : IVec S256x128 32) (j : S256x128.Idx) :
    step y b f j = stepP (fun n => decide (Ideal.ofBits .f32 (shl23 n) ≤ y j)) b (f j) := by
  show Scalar.select (BitVec.ofBool (decide (Ideal.ofBits .f32 (shl23 (f j + b)) ≤ y j))) (f j + b) (f j) = _
  unfold stepP
  by_cases h : Ideal.ofBits .f32 (shl23 (f j + b)) ≤ y j
  · rw [decide_eq_true h]; simp [h]; rfl
  · rw [decide_eq_false h]; simp [h]; rfl

theorem field_apply (y : FVec Ideal S256x128 .f32) (j : S256x128.Idx) :
    field y j = searchP (fun n => decide (Ideal.ofBits .f32 (shl23 n) ≤ y j)) := by
  unfold field searchP
  simp only [step_apply]
  rfl

theorem scaleOf_apply (y : FVec Ideal S256x128 .f32) (j : S256x128.Idx) : scaleOf y j = kScale (y j) := by
  unfold kScale
  rw [← field_apply]
  rfl

theorem invOf_apply (y : FVec Ideal S256x128 .f32) (j : S256x128.Idx) : invOf y j = kInv (y j) := by
  unfold kInv
  rw [← field_apply]
  rfl

/-- The kernel's scale and inverse of a number whose field is `K`. -/
theorem kScale_of (y : EReal) (K : Fin 256) (h : ∀ n, 1 ≤ n → n ≤ 255 → (pow2 n ≤ y ↔ n ≤ K.val)) :
    kScale y = pow2 (scaleK K.val) ∧ kInv y = pow2 (invK K.val) := by
  have e := searchP_eq (fun n => decide (Ideal.ofBits .f32 (shl23 n) ≤ y)) K fun n hn => by
    have := h n.toNat hn.1 hn.2
    unfold pow2 at this
    rw [BitVec.ofNat_toNat, BitVec.setWidth_eq] at this
    exact decide_eq_decide.mpr this
  unfold kScale kInv pow2
  rw [e, scaleW, invW]
  exact ⟨rfl, rfl⟩

/-! ## The reference's side -/

/-- The reference's exponent of one number. -/
def refE (y : EReal) : EReal :=
  Scalar.select (IntOp.andi (Ideal.cmp .oge y (Ideal.ofBits .f32 0x00800000#32)) (Ideal.cmp .olt y (Ideal.ofBits .f32 0x7F800000#32)))
    (Ideal.liftRound Int.floor (Ideal.div (Ideal.log y) (Ideal.log (Ideal.ofBits .f32 0x40000000#32))) + Ideal.ofBits .f32 0x3F800000#32)
    (Ideal.ofBits .f32 0x00000000#32)

/-- The reference's scale of one number. -/
def refScale (y : EReal) : EReal :=
  Scalar.select (Ideal.cmp .ogt (refE y) (Ideal.ofBits .f32 0x42FE0000#32)) (Ideal.ofBits .f32 0x7F800000#32) (Ideal.pow (Ideal.ofBits .f32 0x40000000#32) (refE y))

/-- The reference's inverse of one number's scale. -/
def refInv (y : EReal) : EReal :=
  Scalar.select (Ideal.cmp .ogt (refE y) (Ideal.ofBits .f32 0x42FC0000#32)) (Ideal.ofBits .f32 0x00000000#32)
    (Ideal.pow (Ideal.ofBits .f32 0x40000000#32) (Ideal.ofBits .f32 0x00000000#32 - refE y))

theorem c_least : Ideal.ofBits .f32 0x00800000#32 = (((2 : ℝ) ^ (-126 : ℤ) : ℝ) : EReal) := (pow2_coe 1 (by decide) (by decide)).trans (by norm_num)
theorem c_inf : Ideal.ofBits .f32 0x7F800000#32 = ⊤ := pow2_top
theorem c_zero : Ideal.ofBits .f32 0x00000000#32 = 0 := pow2_zero
theorem c_one : Ideal.ofBits .f32 0x3F800000#32 = ((1 : ℝ) : EReal) := (pow2_coe 127 (by decide) (by decide)).trans (by norm_num)
theorem c_two : Ideal.ofBits .f32 0x40000000#32 = ((2 : ℝ) : EReal) := (pow2_coe 128 (by decide) (by decide)).trans (by norm_num)
theorem c_126 : Ideal.ofBits .f32 0x42FC0000#32 = ((126 : ℝ) : EReal) := by
  have h1 : ((0x42FC0000#32 : BitVec 32).extractLsb' (8 + 23) 1 == 1#1) = false := by decide +kernel
  have h2 : ((0x42FC0000#32 : BitVec 32).extractLsb' 23 8).toNat = 133 := by decide +kernel
  have h3 : ((0x42FC0000#32 : BitVec 32).extractLsb' 0 23).toNat = 8126464 := by decide +kernel
  show Ideal.ieee 8 23 (0x42FC0000#32) = _
  unfold Ideal.ieee
  simp only [h1, h2, h3]
  norm_num
theorem c_127 : Ideal.ofBits .f32 0x42FE0000#32 = ((127 : ℝ) : EReal) := by
  have h1 : ((0x42FE0000#32 : BitVec 32).extractLsb' (8 + 23) 1 == 1#1) = false := by decide +kernel
  have h2 : ((0x42FE0000#32 : BitVec 32).extractLsb' 23 8).toNat = 133 := by decide +kernel
  have h3 : ((0x42FE0000#32 : BitVec 32).extractLsb' 0 23).toNat = 8257536 := by decide +kernel
  show Ideal.ieee 8 23 (0x42FE0000#32) = _
  unfold Ideal.ieee
  simp only [h1, h2, h3]
  norm_num

/-- Choosing by a decided bit. -/
theorem sel_true {α : Type} {c : Prop} [Decidable c] (h : c) (a b : α) : Scalar.select (BitVec.ofBool (decide c)) a b = a := by
  rw [decide_eq_true h]; rfl
theorem sel_false {α : Type} {c : Prop} [Decidable c] (h : ¬c) (a b : α) : Scalar.select (BitVec.ofBool (decide c)) a b = b := by
  rw [decide_eq_false h]; rfl

/-- Outside the normal range the reference's exponent is zero. -/
theorem refE_out (y : EReal) (h : ¬((((2 : ℝ) ^ (-126 : ℤ) : ℝ) : EReal) ≤ y ∧ y < ⊤)) : refE y = 0 := by
  unfold refE
  rw [c_least, c_inf, c_zero]
  show Scalar.select (BitVec.ofBool (decide ((((2 : ℝ) ^ (-126 : ℤ) : ℝ) : EReal) ≤ y)) &&& BitVec.ofBool (decide (y < ⊤))) _ _ = _
  by_cases h1 : (((2 : ℝ) ^ (-126 : ℤ) : ℝ) : EReal) ≤ y
  · have h2 : ¬ y < ⊤ := fun h2 => h ⟨h1, h2⟩
    rw [decide_eq_true h1, decide_eq_false h2]; rfl
  · rw [decide_eq_false h1]
    by_cases h2 : y < ⊤
    · rw [decide_eq_true h2]; rfl
    · rw [decide_eq_false h2]; rfl

/-- The whole part of the binary logarithm. -/
def floorLog (r : ℝ) : ℤ := ⌊Real.log r * (1 / Real.log 2)⌋

/-- A power of two is at most `r` exactly when its exponent is at most the whole part of the binary logarithm. -/
theorem zpow_le_iff (r : ℝ) (hr : 0 < r) (x : ℤ) : (2 : ℝ) ^ x ≤ r ↔ x ≤ floorLog r := by
  have hl2 : 0 < Real.log 2 := Real.log_pos (by norm_num)
  unfold floorLog
  rw [Int.le_floor, mul_one_div, le_div_iff₀ hl2, ← Real.log_zpow, Real.log_le_log_iff (by positivity) hr]

/-- The reference's exponent of a normal number. -/
theorem refE_in (r : ℝ) (h : (2 : ℝ) ^ (-126 : ℤ) ≤ r) : refE (r : EReal) = (((floorLog r + 1 : ℤ) : ℝ) : EReal) := by
  have hr : 0 < r := lt_of_lt_of_le (by positivity) h
  have h1 : (((2 : ℝ) ^ (-126 : ℤ) : ℝ) : EReal) ≤ (r : EReal) := EReal.coe_le_coe_iff.mpr h
  have h2 : (r : EReal) < ⊤ := EReal.coe_lt_top r
  have hl2 : Real.log 2 ≠ 0 := (Real.log_pos (by norm_num)).ne'
  unfold refE
  rw [c_least, c_inf, c_zero, c_one, c_two]
  show Scalar.select (BitVec.ofBool (decide ((((2 : ℝ) ^ (-126 : ℤ) : ℝ) : EReal) ≤ (r : EReal))) &&& BitVec.ofBool (decide ((r : EReal) < ⊤))) _ _ = _
  rw [decide_eq_true h1, decide_eq_true h2]
  show Ideal.liftRound Int.floor (Ideal.div (Ideal.log (r : EReal)) (Ideal.log ((2 : ℝ) : EReal))) + ((1 : ℝ) : EReal) = _
  rw [Ideal.log_coe, Ideal.log_coe, if_neg (not_le.mpr hr), if_neg (by norm_num), Ideal.div_coe hl2, ← EReal.coe_mul, Ideal.liftRound_coe,
    ← EReal.coe_add]
  push_cast
  rfl

/-- With exponent zero the scale and its inverse are one. -/
theorem ref_of_zero (y : EReal) (h : refE y = 0) : refScale y = pow2 127 ∧ refInv y = pow2 127 := by
  have e : pow2 127 = ((1 : ℝ) : EReal) := c_one
  unfold refScale refInv
  rw [h, c_126, c_127, c_inf, c_zero, c_two, e]
  have h126 : ¬ (((126 : ℝ) : EReal) < 0) := by exact_mod_cast (by norm_num : ¬ (126 : ℝ) < 0)
  have h127 : ¬ (((127 : ℝ) : EReal) < 0) := by exact_mod_cast (by norm_num : ¬ (127 : ℝ) < 0)
  refine ⟨(sel_false h127 _ _).trans ?_, (sel_false h126 _ _).trans ?_⟩
  · rw [← EReal.coe_zero, Ideal.pow_coe_coe]
    exact congrArg _ (Real.rpow_zero 2)
  · rw [sub_zero, ← EReal.coe_zero, Ideal.pow_coe_coe]
    exact congrArg _ (Real.rpow_zero 2)

/-- The scale and the inverse of the kernel are the reference's. -/
theorem pow2_eq (y : EReal) : kScale y = refScale y ∧ kInv y = refInv y := by
  by_cases hy : (((2 : ℝ) ^ (-126 : ℤ) : ℝ) : EReal) ≤ y ∧ y < ⊤
  swap
  · rw [(ref_of_zero y (refE_out y hy)).1, (ref_of_zero y (refE_out y hy)).2]
    by_cases h1 : (((2 : ℝ) ^ (-126 : ℤ) : ℝ) : EReal) ≤ y
    · obtain rfl : y = ⊤ := by
        by_contra hne
        exact hy ⟨h1, lt_top_iff_ne_top.mpr hne⟩
      exact kScale_of ⊤ 255 fun n _ hn => ⟨fun _ => hn, fun _ => le_top⟩
    · refine kScale_of y 0 fun n h hn => ⟨fun hle => ?_, fun hle => absurd hle (by show ¬ n ≤ 0; omega)⟩
      exfalso
      refine h1 (le_trans ?_ hle)
      by_cases h255 : n = 255
      · rw [h255, pow2_top]; exact le_top
      · rw [pow2_coe n h (by omega)]
        exact EReal.coe_le_coe_iff.mpr (zpow_le_zpow_right₀ (by norm_num) (by omega))
  · obtain ⟨h1, h2⟩ := hy
    obtain ⟨r, rfl⟩ : ∃ r : ℝ, (r : EReal) = y := by
      refine ⟨y.toReal, EReal.coe_toReal h2.ne ?_⟩
      rintro rfl
      exact absurd h1 (by simp)
    have h : (2 : ℝ) ^ (-126 : ℤ) ≤ r := EReal.coe_le_coe_iff.mp h1
    have hr : 0 < r := lt_of_lt_of_le (by positivity) h
    have hle : ∀ x : ℤ, (2 : ℝ) ^ x ≤ r ↔ x ≤ floorLog r := zpow_le_iff r hr
    have hk : -126 ≤ floorLog r := (hle _).mp h
    have hE := refE_in r h
    generalize floorLog r = k at hle hk hE
    have hK : ∃ K : Fin 256, ((K.val : ℤ) = min (k + 127) 254) := ⟨⟨(min (k + 127) 254).toNat, by omega⟩, by show ((min (k + 127) 254).toNat : ℤ) = _; omega⟩
    obtain ⟨K, hK⟩ := hK
    have hs := kScale_of (r : EReal) K fun n h1 hn => by
      by_cases h255 : n = 255
      · subst h255
        rw [pow2_top]
        exact ⟨fun hh => absurd hh (not_le.mpr h2), fun hh => absurd hh (by omega)⟩
      · rw [pow2_coe n h1 (by omega), EReal.coe_le_coe_iff, hle]
        omega
    have hK0 : ¬(K.val = 0 ∨ K.val = 255) := by omega
    rw [hs.1, hs.2]
    unfold scaleK invK refScale refInv
    rw [if_neg hK0, if_neg hK0, hE, c_126, c_127, c_inf, c_zero, c_two]
    constructor
    · by_cases hk' : 127 ≤ k
      · rw [show K.val + 1 = 255 by omega, pow2_top]
        exact (sel_true (EReal.coe_lt_coe_iff.mpr (by exact_mod_cast (by omega : (127 : ℤ) < k + 1))) _ _).symm
      · refine Eq.trans ?_ (sel_false (fun hh => absurd (EReal.coe_lt_coe_iff.mp hh) (by exact_mod_cast (by omega : ¬ (127 : ℤ) < k + 1))) _ _).symm
        rw [pow2_coe _ (by omega) (by omega), Ideal.pow_coe_coe]
        congr 1
        rw [show (((K.val + 1 : ℕ) : ℤ) - 127) = k + 1 by omega]
        exact (Real.rpow_intCast 2 (k + 1)).symm
    · by_cases hk' : 126 ≤ k
      · rw [show 253 - K.val = 0 by omega, pow2_zero]
        exact (sel_true (EReal.coe_lt_coe_iff.mpr (by exact_mod_cast (by omega : (126 : ℤ) < k + 1))) _ _).symm
      · refine Eq.trans ?_ (sel_false (fun hh => absurd (EReal.coe_lt_coe_iff.mp hh) (by exact_mod_cast (by omega : ¬ (126 : ℤ) < k + 1))) _ _).symm
        rw [pow2_coe _ (by omega) (by omega), zero_sub, ← EReal.coe_neg, Ideal.pow_coe_coe]
        congr 1
        rw [show (((253 - K.val : ℕ) : ℤ) - 127) = -(k + 1) by omega, ← Int.cast_neg]
        exact (Real.rpow_intCast 2 (-(k + 1))).symm

end Cert.KernelIdeal.Proof

end
-- ==== Proof.Match.Elt.lean ====
/- The elements of both results, on extended reals: what kernel and reference are shown to hold. -/
module

public import proofs.«01_k».proof.Proof.Pow2.Scale
public import Idealize.ShloMosaic.Lib.Pointwise

@[expose] public section

set_option maxRecDepth 65536

noncomputable section

namespace Cert.Match

open Cert.KernelIdeal
open Idealize.ShloMosaic Idealize.ShloMosaic.TcCoe

/-- The block of 128 that an index of the contracted axis is in. -/
def blockOf (k : Fin 2304) : Fin 18 := ⟨k.val / 128, by omega⟩

/-- The group of 128 columns that a column is in. -/
def groupIx (col : Fin 9216) : Fin 72 := ⟨col.val / 128, by omega⟩

/-- Column `l` of group `g`. -/
def colIx (g : Fin 72) (l : Fin 128) : Fin 9216 := ⟨g.val * 128 + l.val, by omega⟩

/-- One element of a product of block-scaled arrays. -/
def prodElt (x : Fin 2304 → EReal) (xs : Fin 18 → EReal) (w : Fin 2304 → EReal) (ws : Fin 18 → EReal) : EReal :=
  ∑ k : Fin 2304, x k * xs (blockOf k) * (w k * ws (blockOf k))

/-- A product of two extended reals. -/
abbrev times (a b : EReal) : EReal := a * b

/-- `silu a * b`. -/
def gated (a b : EReal) : EReal := a * Ideal.logistic a * b

/-- A group's largest magnitude times the word nearest 1/448. -/
def meanElt (h : Fin 128 → EReal) : EReal :=
  Finset.univ.fold max (Ideal.ofBits .f32 0xFF800000#32) (fun l => FloatOps.absf (F := Ideal) (φ := .f32) (h l)) * Ideal.ofBits .f32 0x3B124925#32

/-- An element times the inverse scale, held to 448 on both sides. -/
def clip (h i : EReal) : EReal := min (Ideal.ofBits .f32 0x43E00000#32) (max (Ideal.ofBits .f32 0xC3E00000#32) (h * i))

variable (x : S32768x2304.Idx → EReal) (xs : S32768x18.Idx → EReal) (wg : S2304x9216.Idx → EReal) (wgs : S18x72.Idx → EReal)
  (wu : S2304x9216.Idx → EReal) (wus : S18x72.Idx → EReal)

/-- The product with one weight at row `r`, column `col`. -/
def prodAt (w : S2304x9216.Idx → EReal) (ws : S18x72.Idx → EReal) (r : Fin 32768) (col : Fin 9216) : EReal :=
  prodElt (fun k => x (ix2 r k)) (fun b => xs (ix2 r b)) (fun k => w (ix2 k col)) (fun b => ws (ix2 b (groupIx col)))

/-- `silu(gate) * up` at row `r`, column `col`. -/
def hAt (r : Fin 32768) (col : Fin 9216) : EReal := gated (prodAt x xs wg wgs r col) (prodAt x xs wu wus r col)

/-- The group's magnitude at row `r`, group `g`. -/
def meanAt (r : Fin 32768) (g : Fin 72) : EReal := meanElt fun l => hAt x xs wg wgs wu wus r (colIx g l)

/-- The code at row `r`, column `col`. -/
def codeAt (r : Fin 32768) (col : Fin 9216) : EReal :=
  clip (hAt x xs wg wgs wu wus r col) (Cert.KernelIdeal.Proof.kInv (meanAt x xs wg wgs wu wus r (groupIx col)))

/-- The scale at row `r`, group `g`. -/
def scaleAt (r : Fin 32768) (g : Fin 72) : EReal := Cert.KernelIdeal.Proof.kScale (meanAt x xs wg wgs wu wus r g)

end Cert.Match

end
-- ==== Proof.Match.KernelElt.lean ====
/- The kernel's results, element by element. -/
module

public import proofs.«01_k».proof.Proof.Value.Launch
public import proofs.«01_k».proof.Proof.Match.Elt

@[expose] public section

set_option maxRecDepth 65536

noncomputable section

namespace Cert.KernelIdeal.Proof

open Cert.KernelIdeal Cert.KernelIdeal.Gen Cert.Match
open Idealize.ShloMosaic Idealize.ShloMosaic.TcCoe Idealize.ShloMosaic.Tactic

/-- A chunk's element. -/
theorem chunkH_apply (x : Vec Ideal S256x2304 .bf16) (wg wu : Vec Ideal S2304x256 .bf16) (i : Fin 256) (l : Fin 256) :
    chunkH x wg wu (ix2 i l)
      = gated (∑ k : Fin 2304, x (ix2 i k) * wg (ix2 k l) : EReal) (∑ k : Fin 2304, x (ix2 i k) * wu (ix2 k l) : EReal) := by
  pointwise [chunkH, k0_pay132]
  rfl

/-- The first group's element. -/
theorem group0_apply (h : FVec Ideal S256x256 .f32) (i : Fin 256) (l : Fin 128) :
    group0 h (ix2 i l) = h (ix2 i ⟨l.val, by omega⟩) := by
  pointwise [group0]

/-- The second group's element. -/
theorem group1_apply (h : FVec Ideal S256x256 .f32) (i : Fin 256) (l : Fin 128) :
    group1 h (ix2 i l) = h (ix2 i ⟨128 + l.val, by omega⟩) := by
  pointwise [group1]

/-- A group's element. -/
theorem groupOf_apply (n : Nat) (hn : n < 2) (h : FVec Ideal S256x256 .f32) (i : Fin 256) (l : Fin 128) :
    groupOf n h (ix2 i l) = h (ix2 i ⟨128 * n + l.val, by omega⟩) := by
  unfold groupOf
  by_cases h0 : n = 0
  · subst h0
    rw [if_pos rfl, group0_apply]
    congr 3
    omega
  · obtain rfl : n = 1 := by omega
    rw [if_neg h0, group1_apply]

/-- A group's magnitude. -/
theorem mean_apply (g : FVec Ideal S256x128 .f32) (i : Fin 256) (l : Fin 128) :
    mean g (ix2 i l) = meanElt fun k => g (ix2 i k) := by
  pointwise [mean]
  rfl

/-- A group's code. -/
theorem codesOf_apply (g : FVec Ideal S256x128 .f32) (i : Fin 256) (l : Fin 128) :
    codesOf g (ix2 i l) = clip (g (ix2 i l)) (kInv (meanElt fun k => g (ix2 i k))) := by
  rw [← mean_apply g i l, ← invOf_apply]
  pointwise [codesOf]
  rfl

variable (m : (ℓ : Loc nD τ sig) → Buf (Elt Ideal) ℓ) (c : Dev nD)

/-- The row of the arrays that row `i` of chunk `q` is at a point. -/
def rowAt (t : Fin cfg0.N) (q : Fin 8) (i : Fin 256) : Fin 32768 :=
  ⟨2048 * (t.val / 36) + (q.val * 256 + i.val), by have := t.isLt; change _ < 576 at this; omega⟩

/-- The column of the arrays that column `l` of a block is at a point. -/
def colAt (t : Fin cfg0.N) (l : Fin 256) : Fin 9216 := ⟨256 * (t.val % 36) + l.val, by omega⟩

/-- A widened row's element. -/
theorem rows_elt (t : Fin cfg0.N) (q : Fin 8) (i : Fin 256) (k : Fin 2304) :
    rowsOf q (xwAt m c t) (ix2 i k)
      = times (V m c main_v0 (ix2 (rowAt t q i) k)) (V m c main_v1 (ix2 (rowAt t q i) (blockOf k))) := by
  show times (iblk m c 2 t _) (iblk m c 3 t _) = _
  rw [iblk2_apply, iblk3_apply]
  rfl

/-- A widened gate weight's element. -/
theorem gate_elt (t : Fin cfg0.N) (k : Fin 2304) (l : Fin 256) :
    wgAt m c t (ix2 k l) = times (V m c main_arg2 (ix2 k (colAt t l))) (V m c main_arg3 (ix2 (blockOf k) (groupIx (colAt t l)))) := by
  show times (iblk m c 4 t _) (iblk m c 0 t _) = _
  rw [iblk4_apply, iblk0_eq]
  congr 3
  refine Fin.ext ?_
  show 2 * ((grid0.coords t) 1).val + l.val / 128 = (256 * (t.val % 36) + l.val) / 128
  rw [col_eq]
  omega

/-- A widened up weight's element. -/
theorem up_elt (t : Fin cfg0.N) (k : Fin 2304) (l : Fin 256) :
    wuAt m c t (ix2 k l) = times (V m c main_arg4 (ix2 k (colAt t l))) (V m c main_arg5 (ix2 (blockOf k) (groupIx (colAt t l)))) := by
  show times (iblk m c 5 t _) (iblk m c 1 t _) = _
  rw [iblk5_apply, iblk1_eq]
  congr 3
  refine Fin.ext ?_
  show 2 * ((grid0.coords t) 1).val + l.val / 128 = (256 * (t.val % 36) + l.val) / 128
  rw [col_eq]
  omega

/-- A chunk's element at a point. -/
theorem chunk_elt (t : Fin cfg0.N) (q : Fin 8) (i : Fin 256) (l : Fin 256) :
    chunkH (rowsOf q (xwAt m c t)) (wgAt m c t) (wuAt m c t) (ix2 i l)
      = hAt (V m c main_v0) (V m c main_v1) (V m c main_arg2) (V m c main_arg3) (V m c main_arg4) (V m c main_arg5) (rowAt t q i) (colAt t l) := by
  rw [chunkH_apply]
  simp only [rows_elt, gate_elt, up_elt]
  rfl

/-- A group's magnitude at a point. -/
theorem mean_elt (t : Fin cfg0.N) (q : Fin 8) (i : Fin 256) (n : Nat) (hn : n < 2) (g : Fin 72) (hg : g.val = 2 * (t.val % 36) + n) :
    (meanElt fun k => groupOf n (chunkH (rowsOf q (xwAt m c t)) (wgAt m c t) (wuAt m c t)) (ix2 i k))
      = meanAt (V m c main_v0) (V m c main_v1) (V m c main_arg2) (V m c main_arg3) (V m c main_arg4) (V m c main_arg5) (rowAt t q i) g := by
  unfold meanAt
  refine congrArg meanElt (funext fun k => ?_)
  rw [groupOf_apply n hn, chunk_elt]
  refine congrArg _ (Fin.ext ?_)
  show 256 * (t.val % 36) + (128 * n + k.val) = g.val * 128 + k.val
  omega

/-- The kernel's code. -/
theorem codes_elt (r : Fin 32768) (col : Fin 9216) :
    codesArr m c (ix2 r col)
      = codeAt (V m c main_v0) (V m c main_v1) (V m c main_arg2) (V m c main_arg3) (V m c main_arg4) (V m c main_arg5) r col := by
  obtain ⟨t, ht⟩ : ∃ t : Fin cfg0.N, t = pointOf (r.val / 2048) (col.val / 256) (by omega) (by omega) := ⟨_, rfl⟩
  have hv : t.val = 36 * (r.val / 2048) + col.val / 256 := congrArg Fin.val ht
  have hd : t.val / 36 = r.val / 2048 := by omega
  have hm : t.val % 36 = col.val / 256 := by omega
  have e : codesArr m c (ix2 r col) = codesOf (groupOf (col.val % 256 / 128) (chunkH (rowsOf (chunkOf ⟨r.val % 2048, by omega⟩) (xwAt m c t)) (wgAt m c t) (wuAt m c t)))
      (ix2 (inChunk ⟨r.val % 2048, by omega⟩) ⟨col.val % 256 % 128, by omega⟩) := by subst ht; rfl
  rw [e, codesOf_apply, mean_elt m c t _ _ _ (by omega) (groupIx col) (by show col.val / 128 = _; omega), groupOf_apply _ (by omega), chunk_elt]
  have hr : rowAt t (chunkOf ⟨r.val % 2048, by omega⟩) (inChunk ⟨r.val % 2048, by omega⟩) = r := Fin.ext (by
    show 2048 * (t.val / 36) + (r.val % 2048 / 256 * 256 + r.val % 2048 % 256) = r.val
    omega)
  have hc : colAt t ⟨128 * (col.val % 256 / 128) + col.val % 256 % 128, by omega⟩ = col := Fin.ext (by
    show 256 * (t.val % 36) + (128 * (col.val % 256 / 128) + col.val % 256 % 128) = col.val
    omega)
  rw [hr, hc]
  rfl

/-- The kernel's scale. -/
theorem scales_elt (r : Fin 32768) (g : Fin 72) :
    scalesArr m c (ix2 r g)
      = Cert.Match.scaleAt (V m c main_v0) (V m c main_v1) (V m c main_arg2) (V m c main_arg3) (V m c main_arg4) (V m c main_arg5) r g := by
  obtain ⟨t, ht⟩ : ∃ t : Fin cfg0.N, t = pointOf (r.val / 2048) (g.val / 2) (by omega) (by omega) := ⟨_, rfl⟩
  have hv : t.val = 36 * (r.val / 2048) + g.val / 2 := congrArg Fin.val ht
  have hd : t.val / 36 = r.val / 2048 := by omega
  have hm : t.val % 36 = g.val / 2 := by omega
  have e : scalesArr m c (ix2 r g) = scaleOf (mean (groupOf (g.val % 2) (chunkH (rowsOf (chunkOf ⟨r.val % 2048, by omega⟩) (xwAt m c t)) (wgAt m c t) (wuAt m c t))))
      (ix2 (inChunk ⟨r.val % 2048, by omega⟩) ⟨g.val, by omega⟩) := by subst ht; rfl
  rw [e, scaleOf_apply, mean_apply, mean_elt m c t _ _ _ (by omega) g (by omega)]
  have hr : rowAt t (chunkOf ⟨r.val % 2048, by omega⟩) (inChunk ⟨r.val % 2048, by omega⟩) = r := Fin.ext (by
    show 2048 * (t.val / 36) + (r.val % 2048 / 256 * 256 + r.val % 2048 % 256) = r.val
    omega)
  rw [hr]
  rfl

/-- The rows are the first argument's, its leading two axes read as one. -/
theorem V_rows : V m c main_v0
    = shapeCast S32768x2304 (m ((c : Thread nD τ).loc main_arg0)) shapeCasts_S8x4096x2304_S32768x2304 := by
  unfold_abbrev_sides
  after_results
  rfl

/-- The rows' scales are the second argument's, likewise. -/
theorem V_rowScales : V m c main_v1
    = shapeCast S32768x18 (m ((c : Thread nD τ).loc main_arg1)) shapeCasts_S8x4096x18_S32768x18 := by
  unfold_abbrev_sides
  after_results
  rfl

end Cert.KernelIdeal.Proof

end
-- ==== Proof.RefValue.Run.lean ====
/- The reference's results after its run, as functions of its arrays. -/
module

public import proofs.«01_k».proof.Proof.Gen.ReferenceIdeal.Frame
public import Idealize.ShloMosaic.Lib.Pipeline.Value
public import Idealize.ShloMosaic.Lib.Pipeline.ValueKit.Geometry
public import Idealize.ShloMosaic.Lib.Pipeline.ValueKit.Point
public import Idealize.ShloMosaic.Lib.Pipeline.ValueKit.Acc

@[expose] public section

set_option maxRecDepth 65536

noncomputable section

namespace Cert.ReferenceIdeal.Proof

open Cert.ReferenceIdeal Cert.ReferenceIdeal.Gen
open Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ) (ρ : Dev nD → PrngReg)

/-- `silu(gate) * up`, in groups of 128 columns. -/
def refH (c : Dev nD) : FVec F S32768x72x128 .f32 :=
  k0_pay5 (V m c main_v0) (V m c main_v1) (V m c main_arg2) (V m c main_arg3) (V m c main_arg4) (V m c main_arg5)
/-- Each group's largest magnitude divided by 448. -/
def refM (c : Dev nD) : FVec F S32768x72 .f32 :=
  k0_pay6 (V m c main_v0) (V m c main_v1) (V m c main_arg2) (V m c main_arg3) (V m c main_arg4) (V m c main_arg5)
/-- Its binary logarithm. -/
def refL (c : Dev nD) : FVec F S32768x72 .f32 :=
  k0_pay7 (V m c main_v0) (V m c main_v1) (V m c main_arg2) (V m c main_arg3) (V m c main_arg4) (V m c main_arg5)
/-- The codes. -/
def refCodes (c : Dev nD) : Vec F S32768x9216 .fp8e4m3 := k0_pay4 (refH m c) (refM m c) (refL m c)
/-- The scales. -/
def refScales (c : Dev nD) : Vec F S32768x72 .f32 := k0_pay3 (refM m c) (refL m c)

/-- Every window's block is its whole array. -/
theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)

theorem iblk0 (c : Dev nD) (t : Fin cfg0.N) : (iblk m c 0 t : S32768x2304.Idx → _) = V m c main_v0 := by
  funext y; blk_ext [iblk, index0 t]
theorem iblk1 (c : Dev nD) (t : Fin cfg0.N) : (iblk m c 1 t : S32768x18.Idx → _) = V m c main_v1 := by
  funext y; blk_ext [iblk, index1 t]
theorem iblk2 (c : Dev nD) (t : Fin cfg0.N) : (iblk m c 2 t : S2304x9216.Idx → _) = V m c main_arg2 := by
  funext y; blk_ext [iblk, index2 t]
theorem iblk3 (c : Dev nD) (t : Fin cfg0.N) : (iblk m c 3 t : S18x72.Idx → _) = V m c main_arg3 := by
  funext y; blk_ext [iblk, index3 t]
theorem iblk4 (c : Dev nD) (t : Fin cfg0.N) : (iblk m c 4 t : S2304x9216.Idx → _) = V m c main_arg4 := by
  funext y; blk_ext [iblk, index4 t]
theorem iblk5 (c : Dev nD) (t : Fin cfg0.N) : (iblk m c 5 t : S18x72.Idx → _) = V m c main_arg5 := by
  funext y; blk_ext [iblk, index5 t]

/-- The group's magnitude is read off the whole arrays. -/
theorem pay8_eq (x0 : Vec F S32768x2304 .fp8e4m3) (x1 : Vec F S32768x18 .f32) (x2 : Vec F S2304x9216 .fp8e4m3)
    (x3 : Vec F S18x72 .f32) (x4 : Vec F S2304x9216 .fp8e4m3) (x5 : Vec F S18x72 .f32) :
    k0_pay8 x0 x1 x2 x3 x4 x5 = k0_pay6 x0 x1 x2 x3 x4 x5 := by
  unfold k0_pay8
  frame_out
/-- And so is its logarithm. -/
theorem pay9_eq (x0 : Vec F S32768x2304 .fp8e4m3) (x1 : Vec F S32768x18 .f32) (x2 : Vec F S2304x9216 .fp8e4m3)
    (x3 : Vec F S18x72 .f32) (x4 : Vec F S2304x9216 .fp8e4m3) (x5 : Vec F S18x72 .f32) :
    k0_pay9 x0 x1 x2 x3 x4 x5 = k0_pay7 x0 x1 x2 x3 x4 x5 := by
  unfold k0_pay9
  frame_out

/-- The codes' window writes its whole array back. -/
theorem whole6 : ∀ t : Fin cfg0.N, (cfg0.win 6).WholeAt t := (by decide +kernel : ∀ t : Fin grid0.N, _)

/-- The codes' array after the run, named by the point that writes it. -/
theorem arr6_of (c : Dev nD) (t : Fin cfg0.N) : (dats m 0 c).arrAt 6 cfg0.N = refCodes m c := by
  refine (dats m 0 c).arrAt_eq_of_after_last 6 t (whole6 t) (refCodes m c) fun j => ?_
  blk_simp
  rw [after0_6]
  frame_out
  rw [iblk0, iblk1, iblk2, iblk3, iblk4, iblk5, pay8_eq, pay9_eq]
  rfl

/-- The codes' array after the run. -/
theorem arr6 (c : Dev nD) : (dats m 0 c).arrAt 6 cfg0.N = refCodes m c := arr6_of m c ⟨0, by decide⟩

/-- The scales' window writes its whole array back. -/
theorem whole7 : ∀ t : Fin cfg0.N, (cfg0.win 7).WholeAt t := (by decide +kernel : ∀ t : Fin grid0.N, _)

/-- The scales' array after the run, named by the point that writes it. -/
theorem arr7_of (c : Dev nD) (t : Fin cfg0.N) : (dats m 0 c).arrAt 7 cfg0.N = refScales m c := by
  refine (dats m 0 c).arrAt_eq_of_after_last 7 t (whole7 t) (refScales m c) fun j => ?_
  blk_simp
  rw [after0_7]
  frame_out
  rw [iblk0, iblk1, iblk2, iblk3, iblk4, iblk5, pay8_eq, pay9_eq]
  rfl

/-- The scales' array after the run. -/
theorem arr7 (c : Dev nD) : (dats m 0 c).arrAt 7 cfg0.N = refScales m c := arr7_of m c ⟨0, by decide⟩

/-- What the run ends with: both results, the arguments kept. -/
def Ends (r : PUnit × MemSt nD τ sig (Elt F)) (c : Dev nD) : Prop :=
  (r.2.mem ((c : Thread nD τ).loc main_v2_0) = refCodes m c
    ∧ r.2.mem ((c : Thread nD τ).loc main_v2_1) = refScales m c)
  ∧ (r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5))

/-- The reference's run ends with `refCodes` and `refScales`. -/
theorem run_values : θ_run defs (onTc (τ := τ) (main (F := F))) ⟨m, fun _ => 0, ρ⟩ fun r => ∀ c : Dev nD, Ends m r c :=
  (θ_run defs _ _).mono (fun r h c =>
    ⟨⟨((h c).1 6).trans (arr6 m c), ((h c).1 7).trans (arr7 m c)⟩,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

/-- The rows are the first argument's, its leading two axes read as one. -/
theorem V_rows (c : Dev nD) : V m c main_v0
    = shapeCast S32768x2304 (m ((c : Thread nD τ).loc main_arg0)) shapeCasts_S8x4096x2304_S32768x2304 := by
  unfold_abbrev_sides
  after_results
  rfl

/-- The rows' scales are the second argument's, likewise. -/
theorem V_rowScales (c : Dev nD) : V m c main_v1
    = shapeCast S32768x18 (m ((c : Thread nD τ).loc main_arg1)) shapeCasts_S8x4096x18_S32768x18 := by
  unfold_abbrev_sides
  after_results
  rfl

end Cert.ReferenceIdeal.Proof

end
-- ==== Proof.Match.RefElt.lean ====
/- The reference's results, element by element. -/
module

public import proofs.«01_k».proof.Proof.RefValue.Run
public import proofs.«01_k».proof.Proof.Match.Elt

@[expose] public section

set_option maxRecDepth 65536

noncomputable section

namespace Cert.ReferenceIdeal.Proof

open Cert.ReferenceIdeal Cert.ReferenceIdeal.Gen Cert.Match
open Idealize.ShloMosaic Idealize.ShloMosaic.TcCoe Idealize.ShloMosaic.Tactic

variable (x0 : Vec Ideal S32768x2304 .fp8e4m3) (x1 : Vec Ideal S32768x18 .f32) (x2 : Vec Ideal S2304x9216 .fp8e4m3)
    (x3 : Vec Ideal S18x72 .f32) (x4 : Vec Ideal S2304x9216 .fp8e4m3) (x5 : Vec Ideal S18x72 .f32)

theorem groupIx_colIx (g : Fin 72) (l : Fin 128) : groupIx (colIx g l) = g :=
  Fin.ext (by show (g.val * 128 + l.val) / 128 = g.val; omega)

/-- `silu(gate) * up` at a group's lane. -/
theorem h_elt (r : Fin 32768) (g : Fin 72) (l : Fin 128) :
    k0_pay5 x0 x1 x2 x3 x4 x5 (ix3 r g l) = hAt x0 x1 x2 x3 x4 x5 r (colIx g l) := by
  unfold hAt prodAt
  rw [groupIx_colIx]
  pointwise [k0_pay5]
  rfl

/-- The maximum along the last of three axes. -/
theorem max_apply (n : Nat) (v : FVec Ideal (⟨3, ![n, 72, 128]⟩ : Shape) .f32)
    (h : (⟨3, ![n, 72, 128]⟩ : Shape).Reduces [2] (⟨2, ![n, 72]⟩ : Shape)) (r : Fin n) (g : Fin 72) :
    multiReduction .maximumf [2] (⟨2, ![n, 72]⟩ : Shape) v 0xFF800000#32 h (.inl rfl) rfl (ix2 r g)
      = Finset.univ.fold max (Ideal.ofBits .f32 0xFF800000#32) fun k : Fin 128 => v (ix3 r g k) := by
  pointwise

/-- A group's largest magnitude. -/
def topOf (v : FVec Ideal S32768x72x128 .f32) : FVec Ideal S32768x72 .f32 :=
  multiReduction .maximumf [2] S32768x72 v 0xFF800000#32 reduces_S32768x72x128_S32768x72 (.inl rfl) rfl

theorem topOf_apply (v : FVec Ideal S32768x72x128 .f32) (r : Fin 32768) (g : Fin 72) :
    topOf v (ix2 r g) = Finset.univ.fold max (Ideal.ofBits .f32 0xFF800000#32) fun k : Fin 128 => v (ix3 r g k) := by
  unfold topOf
  exact max_apply 32768 v reduces_S32768x72x128_S32768x72 r g

theorem pay6_eq : k0_pay6 x0 x1 x2 x3 x4 x5
    = mulf (topOf (absf (k0_pay5 x0 x1 x2 x3 x4 x5))) (broadcast S32768x72 (Scalar.ofBits .f32 0x3B124925#32)) := by
  unfold k0_pay6 topOf
  rfl

theorem pay7_eq : k0_pay7 x0 x1 x2 x3 x4 x5
    = divf (log (k0_pay6 x0 x1 x2 x3 x4 x5)) (log (broadcast S32768x72 (Scalar.ofBits .f32 0x40000000#32))) := by
  unfold k0_pay7
  rfl

/-- A product at an index. -/
theorem mulf_at (a b : FVec Ideal S32768x72 .f32) (j : S32768x72.Idx) : mulf a b j = (a j * b j : EReal) := rfl

/-- A group's magnitude. -/
theorem mean_elt (r : Fin 32768) (g : Fin 72) :
    k0_pay6 x0 x1 x2 x3 x4 x5 (ix2 r g) = meanAt x0 x1 x2 x3 x4 x5 r g := by
  rw [pay6_eq, mulf_at, topOf_apply]
  unfold meanAt meanElt
  simp only [← h_elt]
  rfl

/-- A quotient of logarithms at an index. -/
theorem logs_at (a : FVec Ideal S32768x72 .f32) (b : EReal) (j : S32768x72.Idx) :
    divf (log a) (log (broadcast S32768x72 (b : Ideal .f32))) j = Ideal.div (Ideal.log (a j)) (Ideal.log b) := rfl

/-- The logarithm's quotient. -/
theorem log_elt (r : Fin 32768) (g : Fin 72) :
    k0_pay7 x0 x1 x2 x3 x4 x5 (ix2 r g)
      = Ideal.div (Ideal.log (k0_pay6 x0 x1 x2 x3 x4 x5 (ix2 r g))) (Ideal.log (Ideal.ofBits .f32 0x40000000#32)) :=
  (congrFun (pay7_eq x0 x1 x2 x3 x4 x5) (ix2 r g)).trans (logs_at _ _ _)

variable (h : FVec Ideal S32768x72x128 .f32) (y l : FVec Ideal S32768x72 .f32)

/-- The exponent, the scale and the inverse at one group. -/
theorem scale_point (r : Fin 32768) (g : Fin 72)
    (hl : l (ix2 r g) = Ideal.div (Ideal.log (y (ix2 r g))) (Ideal.log (Ideal.ofBits .f32 0x40000000#32))) :
    k0_pay3 y l (ix2 r g) = Cert.KernelIdeal.Proof.kScale (y (ix2 r g)) := by
  rw [(Cert.KernelIdeal.Proof.pow2_eq _).1]
  unfold Cert.KernelIdeal.Proof.refScale Cert.KernelIdeal.Proof.refE
  rw [← hl]
  rfl

/-- The inverse scales. -/
def invVec : FVec Ideal S32768x72 .f32 :=
  select (cmpf .ogt (k0_pay1 y l) (broadcast S32768x72 (Scalar.ofBits .f32 0x42FC0000#32))) (broadcast S32768x72 (Scalar.ofBits .f32 0x00000000#32))
    (powf (k0_pay2 (F := Ideal)) (subf (broadcast S32768x72 (Scalar.ofBits .f32 0x00000000#32)) (k0_pay1 y l)))

/-- The codes, from the inverse scales. -/
def codeVec (v : FVec Ideal S32768x72 .f32) : FVec Ideal S32768x9216 .fp8e4m3 :=
  shapeCast S32768x9216 (truncf .fp8e4m3 (minimumf (broadcast S32768x72x128 (Scalar.ofBits .f32 0x43E00000#32))
    (maximumf (broadcast S32768x72x128 (Scalar.ofBits .f32 0xC3E00000#32))
      (mulf h (broadcastTo S32768x72x128 (shapeCast S32768x72x1 v shapeCasts_S32768x72_S32768x72x1) broadcasts_S32768x72x1_S32768x72x128))))
    bitsLt_fp8e4m3_f32) shapeCasts_S32768x72x128_S32768x9216

theorem pay4_eq : k0_pay4 h y l = codeVec h (invVec y l) := by
  unfold k0_pay4 codeVec invVec
  rfl

theorem inv_point (r : Fin 32768) (g : Fin 72)
    (hl : l (ix2 r g) = Ideal.div (Ideal.log (y (ix2 r g))) (Ideal.log (Ideal.ofBits .f32 0x40000000#32))) :
    invVec y l (ix2 r g) = Cert.KernelIdeal.Proof.kInv (y (ix2 r g)) := by
  rw [(Cert.KernelIdeal.Proof.pow2_eq _).2]
  unfold Cert.KernelIdeal.Proof.refInv Cert.KernelIdeal.Proof.refE
  rw [← hl]
  rfl

theorem codeVec_apply (v : FVec Ideal S32768x72 .f32) (r : Fin 32768) (col : Fin 9216) :
    codeVec h v (ix2 r col) = clip (h (ix3 r (groupIx col) ⟨col.val % 128, Nat.mod_lt _ (by decide)⟩)) (v (ix2 r (groupIx col))) := by
  unfold clip
  pointwise [codeVec]
  rfl

variable (m : (ℓ : Loc nD τ sig) → Buf (Elt Ideal) ℓ) (c : Dev nD)

/-- The reference's code. -/
theorem codes_elt (r : Fin 32768) (col : Fin 9216) :
    refCodes m c (ix2 r col)
      = codeAt (V m c main_v0) (V m c main_v1) (V m c main_arg2) (V m c main_arg3) (V m c main_arg4) (V m c main_arg5) r col := by
  unfold refCodes refH refM refL codeAt
  rw [pay4_eq, codeVec_apply, inv_point _ _ _ _ (log_elt _ _ _ _ _ _ _ _), mean_elt, h_elt]
  have e : colIx (groupIx col) ⟨col.val % 128, Nat.mod_lt _ (by decide)⟩ = col :=
    Fin.ext (by show col.val / 128 * 128 + col.val % 128 = col.val; omega)
  rw [e]

/-- The reference's scale. -/
theorem scales_elt (r : Fin 32768) (g : Fin 72) :
    refScales m c (ix2 r g)
      = scaleAt (V m c main_v0) (V m c main_v1) (V m c main_arg2) (V m c main_arg3) (V m c main_arg4) (V m c main_arg5) r g := by
  unfold refScales refM refL scaleAt
  rw [scale_point _ _ _ _ (log_elt _ _ _ _ _ _ _ _), mean_elt]

end Cert.ReferenceIdeal.Proof

end
-- ==== Proof.Match.Results.lean ====
/- From equal arguments the kernel and the reference end with equal results. -/
module

public import proofs.«01_k».proof.Proof.Match.KernelElt
public import proofs.«01_k».proof.Proof.Match.RefElt

@[expose] public section

set_option maxRecDepth 65536

noncomputable section

namespace Cert.Match

open Idealize.ShloMosaic Idealize.ShloMosaic.TcCoe

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same arguments. -/
def SameArgs : Prop := ∀ c : Dev Cert.KernelIdeal.nD,
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

variable {m m'} (h : SameArgs m m') (c : Dev Cert.KernelIdeal.nD)

include h in
theorem rows_eq : Cert.ReferenceIdeal.Gen.V m' c Cert.ReferenceIdeal.main_v0 = Cert.KernelIdeal.Gen.V m c Cert.KernelIdeal.main_v0 :=
  (Cert.ReferenceIdeal.Proof.V_rows m' c).trans ((congrArg (fun z => shapeCast Cert.KernelIdeal.S32768x2304 z Cert.KernelIdeal.Facts₀.shapeCasts_S8x4096x2304_S32768x2304) (h c).1).trans
    (Cert.KernelIdeal.Proof.V_rows m c).symm)

include h in
theorem rowScales_eq : Cert.ReferenceIdeal.Gen.V m' c Cert.ReferenceIdeal.main_v1 = Cert.KernelIdeal.Gen.V m c Cert.KernelIdeal.main_v1 :=
  (Cert.ReferenceIdeal.Proof.V_rowScales m' c).trans ((congrArg (fun z => shapeCast Cert.KernelIdeal.S32768x18 z Cert.KernelIdeal.Facts₀.shapeCasts_S8x4096x18_S32768x18) (h c).2.1).trans
    (Cert.KernelIdeal.Proof.V_rowScales m c).symm)

include h in
theorem gate_eq : Cert.ReferenceIdeal.Gen.V m' c Cert.ReferenceIdeal.main_arg2 = Cert.KernelIdeal.Gen.V m c Cert.KernelIdeal.main_arg2 :=
  (Cert.ReferenceIdeal.Gen.V_main_arg2 m' c).trans ((h c).2.2.1.trans (Cert.KernelIdeal.Gen.V_main_arg2 m c).symm)

include h in
theorem gateScales_eq : Cert.ReferenceIdeal.Gen.V m' c Cert.ReferenceIdeal.main_arg3 = Cert.KernelIdeal.Gen.V m c Cert.KernelIdeal.main_arg3 :=
  (Cert.ReferenceIdeal.Gen.V_main_arg3 m' c).trans ((h c).2.2.2.1.trans (Cert.KernelIdeal.Gen.V_main_arg3 m c).symm)

include h in
theorem up_eq : Cert.ReferenceIdeal.Gen.V m' c Cert.ReferenceIdeal.main_arg4 = Cert.KernelIdeal.Gen.V m c Cert.KernelIdeal.main_arg4 :=
  (Cert.ReferenceIdeal.Gen.V_main_arg4 m' c).trans ((h c).2.2.2.2.1.trans (Cert.KernelIdeal.Gen.V_main_arg4 m c).symm)

include h in
theorem upScales_eq : Cert.ReferenceIdeal.Gen.V m' c Cert.ReferenceIdeal.main_arg5 = Cert.KernelIdeal.Gen.V m c Cert.KernelIdeal.main_arg5 :=
  (Cert.ReferenceIdeal.Gen.V_main_arg5 m' c).trans ((h c).2.2.2.2.2.trans (Cert.KernelIdeal.Gen.V_main_arg5 m c).symm)

include h in
/-- The codes are the same. -/
theorem codes_eq : Cert.ReferenceIdeal.Proof.refCodes m' c = Cert.KernelIdeal.Proof.codesArr m c := by
  funext z
  obtain ⟨r, col, rfl⟩ : ∃ (r : Fin 32768) (col : Fin 9216), z = ix2 r col := ⟨z 0, z 1, eq_ix2 z⟩
  refine (Cert.ReferenceIdeal.Proof.codes_elt m' c r col).trans (Eq.trans ?_ (Cert.KernelIdeal.Proof.codes_elt m c r col).symm)
  rw [rows_eq h c, rowScales_eq h c, gate_eq h c, gateScales_eq h c, up_eq h c, upScales_eq h c]

include h in
/-- The scales are the same. -/
theorem scales_eq : Cert.ReferenceIdeal.Proof.refScales m' c = Cert.KernelIdeal.Proof.scalesArr m c := by
  funext z
  obtain ⟨r, g, rfl⟩ : ∃ (r : Fin 32768) (g : Fin 72), z = ix2 r g := ⟨z 0, z 1, eq_ix2 z⟩
  refine (Cert.ReferenceIdeal.Proof.scales_elt m' c r g).trans (Eq.trans ?_ (Cert.KernelIdeal.Proof.scales_elt m c r g).symm)
  rw [rows_eq h c, rowScales_eq h c, gate_eq h c, gateScales_eq h c, up_eq h c, upScales_eq h c]

end Cert.Match

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.FrameBits.Frame
public import proofs.«01_k».proof.Proof.Match.Results
public import Idealize.ShloMosaic.Adequacy
public import Idealize.ShloMosaic.Init

@[expose] public section

noncomputable section

namespace Cert.Proof

open Idealize.ShloMosaic Idealize.SL.Sem Cert.Kernel

/-- From equal arguments both programs run and end with the same codes and the same scales. -/
theorem algebraic : algebraic_KernelIdeal_ReferenceIdeal (hKernelIdeal := Cert.KernelIdeal.Gen.facts) (hReferenceIdeal := Cert.ReferenceIdeal.Gen.facts) := by
  intro m g m' g' _ h
  refine ⟨fun c => Cert.KernelIdeal.Proof.codesArr m c, fun c => Cert.KernelIdeal.Proof.scalesArr m c, ?_, ?_⟩
  · exact (θ_run Cert.KernelIdeal.defs _ _).mono (fun r hr c => ⟨(hr.1 c).1.1, (hr.1 c).1.2, (hr.1 c).2⟩) (Cert.KernelIdeal.Proof.run_values m g)
  · exact (θ_run Cert.ReferenceIdeal.defs _ _).mono (fun r hr c =>
      ⟨(hr c).1.1.trans (Cert.Match.codes_eq h c), (hr c).1.2.trans (Cert.Match.scales_eq h c), (hr c).2⟩) (Cert.ReferenceIdeal.Proof.run_values m' g')

theorem claim : Cert.Claim := ⟨Cert.Kernel.Gen.facts, Cert.KernelIdeal.Gen.facts, Cert.ReferenceIdeal.Gen.facts,
  fun m g _ => Cert.Kernel.Proof.frame m g,
  fun m g _ => Cert.KernelIdeal.Proof.frame m g,
  fun m g _ => Cert.ReferenceIdeal.Gen.frame m g,
  trivial,
  algebraic⟩

end Cert.Proof

end
